-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32768x1024 : Shape := ⟨2, ![32768, 1024]⟩
abbrev S8x128x1024 : Shape := ⟨3, ![8, 128, 1024]⟩
abbrev S32x128x1024 : Shape := ⟨3, ![32, 128, 1024]⟩
abbrev S2x128x1024 : Shape := ⟨3, ![2, 128, 1024]⟩
abbrev S8 : Shape := ⟨1, ![8]⟩
abbrev S128 : Shape := ⟨1, ![128]⟩
abbrev S32 : Shape := ⟨1, ![32]⟩
abbrev S16 : Shape := ⟨1, ![16]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 2
  | .vmem => 3
  | .smem => 0
  | _ => 0

abbrev bufTy : (tb : Table) → Fin (tcTables nBuf tb) → BufTy
  | .hbm, ⟨0, _⟩ => ⟨S16384x1024, .f32⟩
  | .hbm, ⟨1, _⟩ => ⟨S32768x1024, .bf16⟩
  | .local _ .vmem, ⟨0, _⟩ => ⟨S8x128x1024, .f32⟩
  | .local _ .vmem, ⟨1, _⟩ => ⟨S32x128x1024, .bf16⟩
  | .local _ .vmem, ⟨2, _⟩ => ⟨S2x128x1024, .bf16⟩
  | _, _ => ⟨S16384x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 392 → Bool
  | ⟨i, _⟩ => dmaSemScopedAt i

abbrev sig : RefSig :=
  (ofTc nBuf bufTy 1 392 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v13 : BitVec 32 := Scalar.muli v2 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v17 : BitVec 32 := Scalar.muli v9 c1_i32_9
  let v18 : BitVec 32 := Scalar.addi v16 v17
  v18.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v19 : BitVec 32 := Scalar.muli v10 c4_i32_11
  let v20 : BitVec 32 := Scalar.addi c0_i32_12 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v21 : BitVec 32 := Scalar.muli v5 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_18 : BitVec 32 := 2#32
  let v27 : BitVec 32 := Scalar.muli v11 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off1 (d0 : Dev nD) (c0_i32_98 : BitVec 32) : Fin 2 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.addi v34 v5
  let c4096_i32 : BitVec 32 := 4096#32
  let v36 : BitVec 32 := Scalar.muli v35 c4096_i32
  let v242 : BitVec 32 := Scalar.addi v36 c0_i32_98
  let c0_i32_230 : BitVec 32 := 0#32
  ![v242.toNat, 0]
def k0_off2 (d0 : Dev nD) (c0_i32_98 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v31 : BitVec 32 := Scalar.muli v8 c16384_i32
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.addi v34 v5
  let c4096_i32 : BitVec 32 := 4096#32
  let v36 : BitVec 32 := Scalar.muli v35 c4096_i32
  let v242 : BitVec 32 := Scalar.addi v36 c0_i32_98
  let v421 : BitVec 32 := Scalar.addi v31 v242
  let c0_i32_275 : BitVec 32 := 0#32
  ![v421.toNat, 0]
def k0_dev4 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_281 : BitVec 32 := 4#32
  let v428 : BitVec 32 := Scalar.muli v2 c4_i32_281
  let v429 : BitVec 32 := Scalar.addi c0_i32_282 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_283 : BitVec 32 := 2#32
  let v430 : BitVec 32 := Scalar.muli v5 c2_i32_283
  let v431 : BitVec 32 := Scalar.addi v429 v430
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_284 : BitVec 32 := 1#32
  let v432 : BitVec 32 := Scalar.muli v9 c1_i32_284
  let v433 : BitVec 32 := Scalar.addi v431 v432
  v433.toNat
def k0_dev5 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v464 : BitVec 32 := Scalar.muli v2 c4_i32_311
  let v465 : BitVec 32 := Scalar.addi c0_i32_312 v464
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_313 : BitVec 32 := 2#32
  let v466 : BitVec 32 := Scalar.muli v5 c2_i32_313
  let v467 : BitVec 32 := Scalar.addi v465 v466
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_314 : BitVec 32 := 1#32
  let v468 : BitVec 32 := Scalar.muli v9 c1_i32_314
  let v469 : BitVec 32 := Scalar.addi v467 v468
  v469.toNat
def k0_dev6 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_341 : BitVec 32 := 4#32
  let v500 : BitVec 32 := Scalar.muli v2 c4_i32_341
  let v501 : BitVec 32 := Scalar.addi c0_i32_342 v500
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_343 : BitVec 32 := 2#32
  let v502 : BitVec 32 := Scalar.muli v5 c2_i32_343
  let v503 : BitVec 32 := Scalar.addi v501 v502
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_344 : BitVec 32 := 1#32
  let v504 : BitVec 32 := Scalar.muli v9 c1_i32_344
  let v505 : BitVec 32 := Scalar.addi v503 v504
  v505.toNat
def k0_dev7 (d0 : Dev nD) : Nat :=
  let c0_i32_372 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_371 : BitVec 32 := 4#32
  let v536 : BitVec 32 := Scalar.muli v2 c4_i32_371
  let v537 : BitVec 32 := Scalar.addi c0_i32_372 v536
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_373 : BitVec 32 := 2#32
  let v538 : BitVec 32 := Scalar.muli v5 c2_i32_373
  let v539 : BitVec 32 := Scalar.addi v537 v538
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_374 : BitVec 32 := 1#32
  let v540 : BitVec 32 := Scalar.muli v9 c1_i32_374
  let v541 : BitVec 32 := Scalar.addi v539 v540
  v541.toNat
def k0_off3 (d0 : Dev nD) (c0_i32_388 : BitVec 32) : Fin 2 → Nat :=
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_20 v8
  let c16384_i32_21 : BitVec 32 := 16384#32
  let v33 : BitVec 32 := Scalar.muli v32 c16384_i32_21
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.muli c2_i32_22 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v35 : BitVec 32 := Scalar.addi v34 v5
  let c4096_i32 : BitVec 32 := 4096#32
  let v36 : BitVec 32 := Scalar.muli v35 c4096_i32
  let v560 : BitVec 32 := Scalar.addi v33 v36
  let v561 : BitVec 32 := Scalar.addi v560 c0_i32_388
  let c0_i32_395 : BitVec 32 := 0#32
  ![v561.toNat, 0]
def k0_dev8 (d0 : Dev nD) : Nat :=
  let c0_i32_392 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_391 : BitVec 32 := 4#32
  let v562 : BitVec 32 := Scalar.muli v10 c4_i32_391
  let v563 : BitVec 32 := Scalar.addi c0_i32_392 v562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_393 : BitVec 32 := 2#32
  let v564 : BitVec 32 := Scalar.muli v5 c2_i32_393
  let v565 : BitVec 32 := Scalar.addi v563 v564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_394 : BitVec 32 := 1#32
  let v566 : BitVec 32 := Scalar.muli v8 c1_i32_394
  let v567 : BitVec 32 := Scalar.addi v565 v566
  v567.toNat
def k0_dev9 (d0 : Dev nD) : Nat :=
  let c0_i32_400 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_399 : BitVec 32 := 4#32
  let v574 : BitVec 32 := Scalar.muli v2 c4_i32_399
  let v575 : BitVec 32 := Scalar.addi c0_i32_400 v574
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_401 : BitVec 32 := 2#32
  let v576 : BitVec 32 := Scalar.muli v11 c2_i32_401
  let v577 : BitVec 32 := Scalar.addi v575 v576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_402 : BitVec 32 := 1#32
  let v578 : BitVec 32 := Scalar.muli v8 c1_i32_402
  let v579 : BitVec 32 := Scalar.addi v577 v578
  v579.toNat
def k0_dev10 (d0 : Dev nD) : Nat :=
  let c0_i32_429 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_428 : BitVec 32 := 4#32
  let v609 : BitVec 32 := Scalar.muli v2 c4_i32_428
  let v610 : BitVec 32 := Scalar.addi c0_i32_429 v609
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_430 : BitVec 32 := 2#32
  let v611 : BitVec 32 := Scalar.muli v5 c2_i32_430
  let v612 : BitVec 32 := Scalar.addi v610 v611
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_431 : BitVec 32 := 1#32
  let v613 : BitVec 32 := Scalar.muli v9 c1_i32_431
  let v614 : BitVec 32 := Scalar.addi v612 v613
  v614.toNat
def k0_dev11 (d0 : Dev nD) : Nat :=
  let c0_i32_459 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_458 : BitVec 32 := 4#32
  let v645 : BitVec 32 := Scalar.muli v2 c4_i32_458
  let v646 : BitVec 32 := Scalar.addi c0_i32_459 v645
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_460 : BitVec 32 := 2#32
  let v647 : BitVec 32 := Scalar.muli v5 c2_i32_460
  let v648 : BitVec 32 := Scalar.addi v646 v647
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_461 : BitVec 32 := 1#32
  let v649 : BitVec 32 := Scalar.muli v9 c1_i32_461
  let v650 : BitVec 32 := Scalar.addi v648 v649
  v650.toNat
def k0_dev12 (d0 : Dev nD) : Nat :=
  let c0_i32_479 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_478 : BitVec 32 := 4#32
  let v671 : BitVec 32 := Scalar.muli v10 c4_i32_478
  let v672 : BitVec 32 := Scalar.addi c0_i32_479 v671
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_480 : BitVec 32 := 2#32
  let v673 : BitVec 32 := Scalar.muli v5 c2_i32_480
  let v674 : BitVec 32 := Scalar.addi v672 v673
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_481 : BitVec 32 := 1#32
  let v675 : BitVec 32 := Scalar.muli v8 c1_i32_481
  let v676 : BitVec 32 := Scalar.addi v674 v675
  v676.toNat
def k0_dev13 (d0 : Dev nD) : Nat :=
  let c0_i32_487 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_486 : BitVec 32 := 4#32
  let v683 : BitVec 32 := Scalar.muli v2 c4_i32_486
  let v684 : BitVec 32 := Scalar.addi c0_i32_487 v683
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_488 : BitVec 32 := 2#32
  let v685 : BitVec 32 := Scalar.muli v11 c2_i32_488
  let v686 : BitVec 32 := Scalar.addi v684 v685
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_489 : BitVec 32 := 1#32
  let v687 : BitVec 32 := Scalar.muli v8 c1_i32_489
  let v688 : BitVec 32 := Scalar.addi v686 v687
  v688.toNat
def k0_dev14 (d0 : Dev nD) : Nat :=
  let c0_i32_516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_515 : BitVec 32 := 4#32
  let v718 : BitVec 32 := Scalar.muli v2 c4_i32_515
  let v719 : BitVec 32 := Scalar.addi c0_i32_516 v718
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_517 : BitVec 32 := 2#32
  let v720 : BitVec 32 := Scalar.muli v5 c2_i32_517
  let v721 : BitVec 32 := Scalar.addi v719 v720
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_518 : BitVec 32 := 1#32
  let v722 : BitVec 32 := Scalar.muli v9 c1_i32_518
  let v723 : BitVec 32 := Scalar.addi v721 v722
  v723.toNat
def k0_dev15 (d0 : Dev nD) : Nat :=
  let c0_i32_546 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_545 : BitVec 32 := 4#32
  let v754 : BitVec 32 := Scalar.muli v2 c4_i32_545
  let v755 : BitVec 32 := Scalar.addi c0_i32_546 v754
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_547 : BitVec 32 := 2#32
  let v756 : BitVec 32 := Scalar.muli v5 c2_i32_547
  let v757 : BitVec 32 := Scalar.addi v755 v756
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_548 : BitVec 32 := 1#32
  let v758 : BitVec 32 := Scalar.muli v9 c1_i32_548
  let v759 : BitVec 32 := Scalar.addi v757 v758
  v759.toNat
def k0_off4 (d0 : Dev nD) (c0_i32_33 : BitVec 32) : Fin 2 → Nat :=
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_20 v8
  let c16384_i32_21 : BitVec 32 := 16384#32
  let v33 : BitVec 32 := Scalar.muli v32 c16384_i32_21
  let c2_i32_24 : BitVec 32 := 2#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_23 v2
  let v38 : BitVec 32 := Scalar.muli c2_i32_24 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.addi v38 v5
  let c4096_i32_25 : BitVec 32 := 4096#32
  let v40 : BitVec 32 := Scalar.muli v39 c4096_i32_25
  let v50 : BitVec 32 := Scalar.addi v33 v40
  let v51 : BitVec 32 := Scalar.addi v50 c0_i32_33
  let c0_i32_558 : BitVec 32 := 0#32
  ![v51.toNat, 0]
def k0_dev16 (d0 : Dev nD) : Nat :=
  let c0_i32_564 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_563 : BitVec 32 := 4#32
  let v779 : BitVec 32 := Scalar.muli v2 c4_i32_563
  let v780 : BitVec 32 := Scalar.addi c0_i32_564 v779
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_565 : BitVec 32 := 2#32
  let v781 : BitVec 32 := Scalar.muli v11 c2_i32_565
  let v782 : BitVec 32 := Scalar.addi v780 v781
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_566 : BitVec 32 := 1#32
  let v783 : BitVec 32 := Scalar.muli v8 c1_i32_566
  let v784 : BitVec 32 := Scalar.addi v782 v783
  v784.toNat
def k0_dev17 (d0 : Dev nD) : Nat :=
  let c0_i32_592 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_591 : BitVec 32 := 4#32
  let v814 : BitVec 32 := Scalar.muli v2 c4_i32_591
  let v815 : BitVec 32 := Scalar.addi c0_i32_592 v814
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_593 : BitVec 32 := 2#32
  let v816 : BitVec 32 := Scalar.muli v5 c2_i32_593
  let v817 : BitVec 32 := Scalar.addi v815 v816
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_594 : BitVec 32 := 1#32
  let v818 : BitVec 32 := Scalar.muli v9 c1_i32_594
  let v819 : BitVec 32 := Scalar.addi v817 v818
  v819.toNat
def k0_dev18 (d0 : Dev nD) : Nat :=
  let c0_i32_621 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_620 : BitVec 32 := 4#32
  let v850 : BitVec 32 := Scalar.muli v2 c4_i32_620
  let v851 : BitVec 32 := Scalar.addi c0_i32_621 v850
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_622 : BitVec 32 := 2#32
  let v852 : BitVec 32 := Scalar.muli v5 c2_i32_622
  let v853 : BitVec 32 := Scalar.addi v851 v852
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_623 : BitVec 32 := 1#32
  let v854 : BitVec 32 := Scalar.muli v9 c1_i32_623
  let v855 : BitVec 32 := Scalar.addi v853 v854
  v855.toNat
def k0_dev19 (d0 : Dev nD) : Nat :=
  let c0_i32_641 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_640 : BitVec 32 := 4#32
  let v876 : BitVec 32 := Scalar.muli v10 c4_i32_640
  let v877 : BitVec 32 := Scalar.addi c0_i32_641 v876
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_642 : BitVec 32 := 2#32
  let v878 : BitVec 32 := Scalar.muli v5 c2_i32_642
  let v879 : BitVec 32 := Scalar.addi v877 v878
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_643 : BitVec 32 := 1#32
  let v880 : BitVec 32 := Scalar.muli v8 c1_i32_643
  let v881 : BitVec 32 := Scalar.addi v879 v880
  v881.toNat
def k0_dev20 (d0 : Dev nD) : Nat :=
  let c0_i32_649 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_648 : BitVec 32 := 4#32
  let v888 : BitVec 32 := Scalar.muli v2 c4_i32_648
  let v889 : BitVec 32 := Scalar.addi c0_i32_649 v888
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_650 : BitVec 32 := 2#32
  let v890 : BitVec 32 := Scalar.muli v11 c2_i32_650
  let v891 : BitVec 32 := Scalar.addi v889 v890
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_651 : BitVec 32 := 1#32
  let v892 : BitVec 32 := Scalar.muli v8 c1_i32_651
  let v893 : BitVec 32 := Scalar.addi v891 v892
  v893.toNat
def k0_dev21 (d0 : Dev nD) : Nat :=
  let c0_i32_677 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_676 : BitVec 32 := 4#32
  let v923 : BitVec 32 := Scalar.muli v2 c4_i32_676
  let v924 : BitVec 32 := Scalar.addi c0_i32_677 v923
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_678 : BitVec 32 := 2#32
  let v925 : BitVec 32 := Scalar.muli v5 c2_i32_678
  let v926 : BitVec 32 := Scalar.addi v924 v925
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_679 : BitVec 32 := 1#32
  let v927 : BitVec 32 := Scalar.muli v9 c1_i32_679
  let v928 : BitVec 32 := Scalar.addi v926 v927
  v928.toNat
def k0_dev22 (d0 : Dev nD) : Nat :=
  let c0_i32_706 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_705 : BitVec 32 := 4#32
  let v959 : BitVec 32 := Scalar.muli v2 c4_i32_705
  let v960 : BitVec 32 := Scalar.addi c0_i32_706 v959
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_707 : BitVec 32 := 2#32
  let v961 : BitVec 32 := Scalar.muli v5 c2_i32_707
  let v962 : BitVec 32 := Scalar.addi v960 v961
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_708 : BitVec 32 := 1#32
  let v963 : BitVec 32 := Scalar.muli v9 c1_i32_708
  let v964 : BitVec 32 := Scalar.addi v962 v963
  v964.toNat
def k0_off5 (d0 : Dev nD) (c128_i32_35 : BitVec 32) : Fin 2 → Nat :=
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_20 v8
  let c16384_i32_21 : BitVec 32 := 16384#32
  let v33 : BitVec 32 := Scalar.muli v32 c16384_i32_21
  let c2_i32_26 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_26 v2
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v42 : BitVec 32 := Scalar.subi c1_i32_27 v5
  let v43 : BitVec 32 := Scalar.addi v41 v42
  let c4096_i32_28 : BitVec 32 := 4096#32
  let v44 : BitVec 32 := Scalar.muli v43 c4096_i32_28
  let v116 : BitVec 32 := Scalar.addi v33 v44
  let v117 : BitVec 32 := Scalar.addi v116 c128_i32_35
  let c0_i32_718 : BitVec 32 := 0#32
  ![v117.toNat, 0]
def k0_dev23 (d0 : Dev nD) : Nat :=
  let c0_i32_724 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_723 : BitVec 32 := 4#32
  let v984 : BitVec 32 := Scalar.muli v10 c4_i32_723
  let v985 : BitVec 32 := Scalar.addi c0_i32_724 v984
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_725 : BitVec 32 := 2#32
  let v986 : BitVec 32 := Scalar.muli v5 c2_i32_725
  let v987 : BitVec 32 := Scalar.addi v985 v986
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_726 : BitVec 32 := 1#32
  let v988 : BitVec 32 := Scalar.muli v8 c1_i32_726
  let v989 : BitVec 32 := Scalar.addi v987 v988
  v989.toNat
def k0_dev24 (d0 : Dev nD) : Nat :=
  let c0_i32_752 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_751 : BitVec 32 := 4#32
  let v1019 : BitVec 32 := Scalar.muli v2 c4_i32_751
  let v1020 : BitVec 32 := Scalar.addi c0_i32_752 v1019
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_753 : BitVec 32 := 2#32
  let v1021 : BitVec 32 := Scalar.muli v5 c2_i32_753
  let v1022 : BitVec 32 := Scalar.addi v1020 v1021
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_754 : BitVec 32 := 1#32
  let v1023 : BitVec 32 := Scalar.muli v9 c1_i32_754
  let v1024 : BitVec 32 := Scalar.addi v1022 v1023
  v1024.toNat
def k0_dev25 (d0 : Dev nD) : Nat :=
  let c0_i32_781 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_780 : BitVec 32 := 4#32
  let v1055 : BitVec 32 := Scalar.muli v2 c4_i32_780
  let v1056 : BitVec 32 := Scalar.addi c0_i32_781 v1055
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_782 : BitVec 32 := 2#32
  let v1057 : BitVec 32 := Scalar.muli v5 c2_i32_782
  let v1058 : BitVec 32 := Scalar.addi v1056 v1057
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_783 : BitVec 32 := 1#32
  let v1059 : BitVec 32 := Scalar.muli v9 c1_i32_783
  let v1060 : BitVec 32 := Scalar.addi v1058 v1059
  v1060.toNat
def k0_dev26 (d0 : Dev nD) : Nat :=
  let c0_i32_801 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_800 : BitVec 32 := 4#32
  let v1081 : BitVec 32 := Scalar.muli v10 c4_i32_800
  let v1082 : BitVec 32 := Scalar.addi c0_i32_801 v1081
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_802 : BitVec 32 := 2#32
  let v1083 : BitVec 32 := Scalar.muli v5 c2_i32_802
  let v1084 : BitVec 32 := Scalar.addi v1082 v1083
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_803 : BitVec 32 := 1#32
  let v1085 : BitVec 32 := Scalar.muli v8 c1_i32_803
  let v1086 : BitVec 32 := Scalar.addi v1084 v1085
  v1086.toNat
def k0_dev27 (d0 : Dev nD) : Nat :=
  let c0_i32_809 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_808 : BitVec 32 := 4#32
  let v1093 : BitVec 32 := Scalar.muli v2 c4_i32_808
  let v1094 : BitVec 32 := Scalar.addi c0_i32_809 v1093
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_810 : BitVec 32 := 2#32
  let v1095 : BitVec 32 := Scalar.muli v11 c2_i32_810
  let v1096 : BitVec 32 := Scalar.addi v1094 v1095
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_811 : BitVec 32 := 1#32
  let v1097 : BitVec 32 := Scalar.muli v8 c1_i32_811
  let v1098 : BitVec 32 := Scalar.addi v1096 v1097
  v1098.toNat
def k0_dev28 (d0 : Dev nD) : Nat :=
  let c0_i32_837 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_836 : BitVec 32 := 4#32
  let v1128 : BitVec 32 := Scalar.muli v2 c4_i32_836
  let v1129 : BitVec 32 := Scalar.addi c0_i32_837 v1128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_838 : BitVec 32 := 2#32
  let v1130 : BitVec 32 := Scalar.muli v5 c2_i32_838
  let v1131 : BitVec 32 := Scalar.addi v1129 v1130
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_839 : BitVec 32 := 1#32
  let v1132 : BitVec 32 := Scalar.muli v9 c1_i32_839
  let v1133 : BitVec 32 := Scalar.addi v1131 v1132
  v1133.toNat
def k0_dev29 (d0 : Dev nD) : Nat :=
  let c0_i32_866 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_865 : BitVec 32 := 4#32
  let v1164 : BitVec 32 := Scalar.muli v2 c4_i32_865
  let v1165 : BitVec 32 := Scalar.addi c0_i32_866 v1164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_867 : BitVec 32 := 2#32
  let v1166 : BitVec 32 := Scalar.muli v5 c2_i32_867
  let v1167 : BitVec 32 := Scalar.addi v1165 v1166
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_868 : BitVec 32 := 1#32
  let v1168 : BitVec 32 := Scalar.muli v9 c1_i32_868
  let v1169 : BitVec 32 := Scalar.addi v1167 v1168
  v1169.toNat
def k0_dev30 (d0 : Dev nD) : Nat :=
  let c0_i32_884 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_883 : BitVec 32 := 4#32
  let v1189 : BitVec 32 := Scalar.muli v2 c4_i32_883
  let v1190 : BitVec 32 := Scalar.addi c0_i32_884 v1189
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_885 : BitVec 32 := 2#32
  let v1191 : BitVec 32 := Scalar.muli v11 c2_i32_885
  let v1192 : BitVec 32 := Scalar.addi v1190 v1191
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_886 : BitVec 32 := 1#32
  let v1193 : BitVec 32 := Scalar.muli v8 c1_i32_886
  let v1194 : BitVec 32 := Scalar.addi v1192 v1193
  v1194.toNat
def k0_dev31 (d0 : Dev nD) : Nat :=
  let c0_i32_912 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_911 : BitVec 32 := 4#32
  let v1224 : BitVec 32 := Scalar.muli v2 c4_i32_911
  let v1225 : BitVec 32 := Scalar.addi c0_i32_912 v1224
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_913 : BitVec 32 := 2#32
  let v1226 : BitVec 32 := Scalar.muli v5 c2_i32_913
  let v1227 : BitVec 32 := Scalar.addi v1225 v1226
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_914 : BitVec 32 := 1#32
  let v1228 : BitVec 32 := Scalar.muli v9 c1_i32_914
  let v1229 : BitVec 32 := Scalar.addi v1227 v1228
  v1229.toNat
def k0_dev32 (d0 : Dev nD) : Nat :=
  let c0_i32_941 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_940 : BitVec 32 := 4#32
  let v1260 : BitVec 32 := Scalar.muli v2 c4_i32_940
  let v1261 : BitVec 32 := Scalar.addi c0_i32_941 v1260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_942 : BitVec 32 := 2#32
  let v1262 : BitVec 32 := Scalar.muli v5 c2_i32_942
  let v1263 : BitVec 32 := Scalar.addi v1261 v1262
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_943 : BitVec 32 := 1#32
  let v1264 : BitVec 32 := Scalar.muli v9 c1_i32_943
  let v1265 : BitVec 32 := Scalar.addi v1263 v1264
  v1265.toNat
def k0_dev33 (d0 : Dev nD) : Nat :=
  let c0_i32_961 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_960 : BitVec 32 := 4#32
  let v1286 : BitVec 32 := Scalar.muli v10 c4_i32_960
  let v1287 : BitVec 32 := Scalar.addi c0_i32_961 v1286
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_962 : BitVec 32 := 2#32
  let v1288 : BitVec 32 := Scalar.muli v5 c2_i32_962
  let v1289 : BitVec 32 := Scalar.addi v1287 v1288
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_963 : BitVec 32 := 1#32
  let v1290 : BitVec 32 := Scalar.muli v8 c1_i32_963
  let v1291 : BitVec 32 := Scalar.addi v1289 v1290
  v1291.toNat
def k0_dev34 (d0 : Dev nD) : Nat :=
  let c0_i32_969 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_968 : BitVec 32 := 4#32
  let v1298 : BitVec 32 := Scalar.muli v2 c4_i32_968
  let v1299 : BitVec 32 := Scalar.addi c0_i32_969 v1298
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_970 : BitVec 32 := 2#32
  let v1300 : BitVec 32 := Scalar.muli v11 c2_i32_970
  let v1301 : BitVec 32 := Scalar.addi v1299 v1300
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_971 : BitVec 32 := 1#32
  let v1302 : BitVec 32 := Scalar.muli v8 c1_i32_971
  let v1303 : BitVec 32 := Scalar.addi v1301 v1302
  v1303.toNat
def k0_dev35 (d0 : Dev nD) : Nat :=
  let c0_i32_997 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_996 : BitVec 32 := 4#32
  let v1333 : BitVec 32 := Scalar.muli v2 c4_i32_996
  let v1334 : BitVec 32 := Scalar.addi c0_i32_997 v1333
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_998 : BitVec 32 := 2#32
  let v1335 : BitVec 32 := Scalar.muli v5 c2_i32_998
  let v1336 : BitVec 32 := Scalar.addi v1334 v1335
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_999 : BitVec 32 := 1#32
  let v1337 : BitVec 32 := Scalar.muli v9 c1_i32_999
  let v1338 : BitVec 32 := Scalar.addi v1336 v1337
  v1338.toNat
def k0_dev36 (d0 : Dev nD) : Nat :=
  let c0_i32_1026 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1025 : BitVec 32 := 4#32
  let v1369 : BitVec 32 := Scalar.muli v2 c4_i32_1025
  let v1370 : BitVec 32 := Scalar.addi c0_i32_1026 v1369
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1027 : BitVec 32 := 2#32
  let v1371 : BitVec 32 := Scalar.muli v5 c2_i32_1027
  let v1372 : BitVec 32 := Scalar.addi v1370 v1371
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1028 : BitVec 32 := 1#32
  let v1373 : BitVec 32 := Scalar.muli v9 c1_i32_1028
  let v1374 : BitVec 32 := Scalar.addi v1372 v1373
  v1374.toNat
def k0_dev37 (d0 : Dev nD) : Nat :=
  let c0_i32_1044 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1043 : BitVec 32 := 4#32
  let v1394 : BitVec 32 := Scalar.muli v10 c4_i32_1043
  let v1395 : BitVec 32 := Scalar.addi c0_i32_1044 v1394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1045 : BitVec 32 := 2#32
  let v1396 : BitVec 32 := Scalar.muli v5 c2_i32_1045
  let v1397 : BitVec 32 := Scalar.addi v1395 v1396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1046 : BitVec 32 := 1#32
  let v1398 : BitVec 32 := Scalar.muli v8 c1_i32_1046
  let v1399 : BitVec 32 := Scalar.addi v1397 v1398
  v1399.toNat
def k0_dev38 (d0 : Dev nD) : Nat :=
  let c0_i32_1072 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1071 : BitVec 32 := 4#32
  let v1429 : BitVec 32 := Scalar.muli v2 c4_i32_1071
  let v1430 : BitVec 32 := Scalar.addi c0_i32_1072 v1429
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1073 : BitVec 32 := 2#32
  let v1431 : BitVec 32 := Scalar.muli v5 c2_i32_1073
  let v1432 : BitVec 32 := Scalar.addi v1430 v1431
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1074 : BitVec 32 := 1#32
  let v1433 : BitVec 32 := Scalar.muli v9 c1_i32_1074
  let v1434 : BitVec 32 := Scalar.addi v1432 v1433
  v1434.toNat
def k0_dev39 (d0 : Dev nD) : Nat :=
  let c0_i32_1101 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1100 : BitVec 32 := 4#32
  let v1465 : BitVec 32 := Scalar.muli v2 c4_i32_1100
  let v1466 : BitVec 32 := Scalar.addi c0_i32_1101 v1465
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1102 : BitVec 32 := 2#32
  let v1467 : BitVec 32 := Scalar.muli v5 c2_i32_1102
  let v1468 : BitVec 32 := Scalar.addi v1466 v1467
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1103 : BitVec 32 := 1#32
  let v1469 : BitVec 32 := Scalar.muli v9 c1_i32_1103
  let v1470 : BitVec 32 := Scalar.addi v1468 v1469
  v1470.toNat
def k0_dev40 (d0 : Dev nD) : Nat :=
  let c0_i32_1121 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1120 : BitVec 32 := 4#32
  let v1491 : BitVec 32 := Scalar.muli v10 c4_i32_1120
  let v1492 : BitVec 32 := Scalar.addi c0_i32_1121 v1491
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1122 : BitVec 32 := 2#32
  let v1493 : BitVec 32 := Scalar.muli v5 c2_i32_1122
  let v1494 : BitVec 32 := Scalar.addi v1492 v1493
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1123 : BitVec 32 := 1#32
  let v1495 : BitVec 32 := Scalar.muli v8 c1_i32_1123
  let v1496 : BitVec 32 := Scalar.addi v1494 v1495
  v1496.toNat
def k0_dev41 (d0 : Dev nD) : Nat :=
  let c0_i32_1129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1128 : BitVec 32 := 4#32
  let v1503 : BitVec 32 := Scalar.muli v2 c4_i32_1128
  let v1504 : BitVec 32 := Scalar.addi c0_i32_1129 v1503
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1130 : BitVec 32 := 2#32
  let v1505 : BitVec 32 := Scalar.muli v11 c2_i32_1130
  let v1506 : BitVec 32 := Scalar.addi v1504 v1505
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1131 : BitVec 32 := 1#32
  let v1507 : BitVec 32 := Scalar.muli v8 c1_i32_1131
  let v1508 : BitVec 32 := Scalar.addi v1506 v1507
  v1508.toNat
def k0_dev42 (d0 : Dev nD) : Nat :=
  let c0_i32_1157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1156 : BitVec 32 := 4#32
  let v1538 : BitVec 32 := Scalar.muli v2 c4_i32_1156
  let v1539 : BitVec 32 := Scalar.addi c0_i32_1157 v1538
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1158 : BitVec 32 := 2#32
  let v1540 : BitVec 32 := Scalar.muli v5 c2_i32_1158
  let v1541 : BitVec 32 := Scalar.addi v1539 v1540
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1159 : BitVec 32 := 1#32
  let v1542 : BitVec 32 := Scalar.muli v9 c1_i32_1159
  let v1543 : BitVec 32 := Scalar.addi v1541 v1542
  v1543.toNat
def k0_dev43 (d0 : Dev nD) : Nat :=
  let c0_i32_1186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1185 : BitVec 32 := 4#32
  let v1574 : BitVec 32 := Scalar.muli v2 c4_i32_1185
  let v1575 : BitVec 32 := Scalar.addi c0_i32_1186 v1574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1187 : BitVec 32 := 2#32
  let v1576 : BitVec 32 := Scalar.muli v5 c2_i32_1187
  let v1577 : BitVec 32 := Scalar.addi v1575 v1576
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1188 : BitVec 32 := 1#32
  let v1578 : BitVec 32 := Scalar.muli v9 c1_i32_1188
  let v1579 : BitVec 32 := Scalar.addi v1577 v1578
  v1579.toNat
def k0_dev44 (d0 : Dev nD) : Nat :=
  let c0_i32_1204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1203 : BitVec 32 := 4#32
  let v1599 : BitVec 32 := Scalar.muli v2 c4_i32_1203
  let v1600 : BitVec 32 := Scalar.addi c0_i32_1204 v1599
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1205 : BitVec 32 := 2#32
  let v1601 : BitVec 32 := Scalar.muli v11 c2_i32_1205
  let v1602 : BitVec 32 := Scalar.addi v1600 v1601
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1206 : BitVec 32 := 1#32
  let v1603 : BitVec 32 := Scalar.muli v8 c1_i32_1206
  let v1604 : BitVec 32 := Scalar.addi v1602 v1603
  v1604.toNat
def k0_dev45 (d0 : Dev nD) : Nat :=
  let c0_i32_1232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1231 : BitVec 32 := 4#32
  let v1634 : BitVec 32 := Scalar.muli v2 c4_i32_1231
  let v1635 : BitVec 32 := Scalar.addi c0_i32_1232 v1634
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1233 : BitVec 32 := 2#32
  let v1636 : BitVec 32 := Scalar.muli v5 c2_i32_1233
  let v1637 : BitVec 32 := Scalar.addi v1635 v1636
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1234 : BitVec 32 := 1#32
  let v1638 : BitVec 32 := Scalar.muli v9 c1_i32_1234
  let v1639 : BitVec 32 := Scalar.addi v1637 v1638
  v1639.toNat
def k0_off6 (d0 : Dev nD) (c0_i32_130 : BitVec 32) : Fin 2 → Nat :=
  let c2_i32_24 : BitVec 32 := 2#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_23 v2
  let v38 : BitVec 32 := Scalar.muli c2_i32_24 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.addi v38 v5
  let c4096_i32_25 : BitVec 32 := 4096#32
  let v40 : BitVec 32 := Scalar.muli v39 c4096_i32_25
  let v274 : BitVec 32 := Scalar.addi v40 c0_i32_130
  let c0_i32_1247 : BitVec 32 := 0#32
  ![v274.toNat, 0]
def k0_dev46 (d0 : Dev nD) : Nat :=
  let c0_i32_1261 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1260 : BitVec 32 := 4#32
  let v1670 : BitVec 32 := Scalar.muli v2 c4_i32_1260
  let v1671 : BitVec 32 := Scalar.addi c0_i32_1261 v1670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1262 : BitVec 32 := 2#32
  let v1672 : BitVec 32 := Scalar.muli v5 c2_i32_1262
  let v1673 : BitVec 32 := Scalar.addi v1671 v1672
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1263 : BitVec 32 := 1#32
  let v1674 : BitVec 32 := Scalar.muli v9 c1_i32_1263
  let v1675 : BitVec 32 := Scalar.addi v1673 v1674
  v1675.toNat
def k0_dev47 (d0 : Dev nD) : Nat :=
  let c0_i32_1281 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1280 : BitVec 32 := 4#32
  let v1696 : BitVec 32 := Scalar.muli v10 c4_i32_1280
  let v1697 : BitVec 32 := Scalar.addi c0_i32_1281 v1696
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1282 : BitVec 32 := 2#32
  let v1698 : BitVec 32 := Scalar.muli v5 c2_i32_1282
  let v1699 : BitVec 32 := Scalar.addi v1697 v1698
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1283 : BitVec 32 := 1#32
  let v1700 : BitVec 32 := Scalar.muli v8 c1_i32_1283
  let v1701 : BitVec 32 := Scalar.addi v1699 v1700
  v1701.toNat
def k0_dev48 (d0 : Dev nD) : Nat :=
  let c0_i32_1289 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1288 : BitVec 32 := 4#32
  let v1708 : BitVec 32 := Scalar.muli v2 c4_i32_1288
  let v1709 : BitVec 32 := Scalar.addi c0_i32_1289 v1708
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1290 : BitVec 32 := 2#32
  let v1710 : BitVec 32 := Scalar.muli v11 c2_i32_1290
  let v1711 : BitVec 32 := Scalar.addi v1709 v1710
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1291 : BitVec 32 := 1#32
  let v1712 : BitVec 32 := Scalar.muli v8 c1_i32_1291
  let v1713 : BitVec 32 := Scalar.addi v1711 v1712
  v1713.toNat
def k0_dev49 (d0 : Dev nD) : Nat :=
  let c0_i32_1317 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1316 : BitVec 32 := 4#32
  let v1743 : BitVec 32 := Scalar.muli v2 c4_i32_1316
  let v1744 : BitVec 32 := Scalar.addi c0_i32_1317 v1743
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1318 : BitVec 32 := 2#32
  let v1745 : BitVec 32 := Scalar.muli v5 c2_i32_1318
  let v1746 : BitVec 32 := Scalar.addi v1744 v1745
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1319 : BitVec 32 := 1#32
  let v1747 : BitVec 32 := Scalar.muli v9 c1_i32_1319
  let v1748 : BitVec 32 := Scalar.addi v1746 v1747
  v1748.toNat
def k0_dev50 (d0 : Dev nD) : Nat :=
  let c0_i32_1346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1345 : BitVec 32 := 4#32
  let v1779 : BitVec 32 := Scalar.muli v2 c4_i32_1345
  let v1780 : BitVec 32 := Scalar.addi c0_i32_1346 v1779
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1347 : BitVec 32 := 2#32
  let v1781 : BitVec 32 := Scalar.muli v5 c2_i32_1347
  let v1782 : BitVec 32 := Scalar.addi v1780 v1781
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1348 : BitVec 32 := 1#32
  let v1783 : BitVec 32 := Scalar.muli v9 c1_i32_1348
  let v1784 : BitVec 32 := Scalar.addi v1782 v1783
  v1784.toNat
def k0_dev51 (d0 : Dev nD) : Nat :=
  let c0_i32_1364 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1363 : BitVec 32 := 4#32
  let v1804 : BitVec 32 := Scalar.muli v10 c4_i32_1363
  let v1805 : BitVec 32 := Scalar.addi c0_i32_1364 v1804
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1365 : BitVec 32 := 2#32
  let v1806 : BitVec 32 := Scalar.muli v5 c2_i32_1365
  let v1807 : BitVec 32 := Scalar.addi v1805 v1806
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1366 : BitVec 32 := 1#32
  let v1808 : BitVec 32 := Scalar.muli v8 c1_i32_1366
  let v1809 : BitVec 32 := Scalar.addi v1807 v1808
  v1809.toNat
def k0_dev52 (d0 : Dev nD) : Nat :=
  let c0_i32_1392 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1391 : BitVec 32 := 4#32
  let v1839 : BitVec 32 := Scalar.muli v2 c4_i32_1391
  let v1840 : BitVec 32 := Scalar.addi c0_i32_1392 v1839
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1393 : BitVec 32 := 2#32
  let v1841 : BitVec 32 := Scalar.muli v5 c2_i32_1393
  let v1842 : BitVec 32 := Scalar.addi v1840 v1841
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1394 : BitVec 32 := 1#32
  let v1843 : BitVec 32 := Scalar.muli v9 c1_i32_1394
  let v1844 : BitVec 32 := Scalar.addi v1842 v1843
  v1844.toNat
def k0_dev53 (d0 : Dev nD) : Nat :=
  let c0_i32_1421 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1420 : BitVec 32 := 4#32
  let v1875 : BitVec 32 := Scalar.muli v2 c4_i32_1420
  let v1876 : BitVec 32 := Scalar.addi c0_i32_1421 v1875
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1422 : BitVec 32 := 2#32
  let v1877 : BitVec 32 := Scalar.muli v5 c2_i32_1422
  let v1878 : BitVec 32 := Scalar.addi v1876 v1877
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1423 : BitVec 32 := 1#32
  let v1879 : BitVec 32 := Scalar.muli v9 c1_i32_1423
  let v1880 : BitVec 32 := Scalar.addi v1878 v1879
  v1880.toNat
def k0_dev54 (d0 : Dev nD) : Nat :=
  let c0_i32_1441 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1440 : BitVec 32 := 4#32
  let v1901 : BitVec 32 := Scalar.muli v10 c4_i32_1440
  let v1902 : BitVec 32 := Scalar.addi c0_i32_1441 v1901
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1442 : BitVec 32 := 2#32
  let v1903 : BitVec 32 := Scalar.muli v5 c2_i32_1442
  let v1904 : BitVec 32 := Scalar.addi v1902 v1903
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1443 : BitVec 32 := 1#32
  let v1905 : BitVec 32 := Scalar.muli v8 c1_i32_1443
  let v1906 : BitVec 32 := Scalar.addi v1904 v1905
  v1906.toNat
def k0_dev55 (d0 : Dev nD) : Nat :=
  let c0_i32_1449 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1448 : BitVec 32 := 4#32
  let v1913 : BitVec 32 := Scalar.muli v2 c4_i32_1448
  let v1914 : BitVec 32 := Scalar.addi c0_i32_1449 v1913
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1450 : BitVec 32 := 2#32
  let v1915 : BitVec 32 := Scalar.muli v11 c2_i32_1450
  let v1916 : BitVec 32 := Scalar.addi v1914 v1915
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1451 : BitVec 32 := 1#32
  let v1917 : BitVec 32 := Scalar.muli v8 c1_i32_1451
  let v1918 : BitVec 32 := Scalar.addi v1916 v1917
  v1918.toNat
def k0_dev56 (d0 : Dev nD) : Nat :=
  let c0_i32_1477 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1476 : BitVec 32 := 4#32
  let v1948 : BitVec 32 := Scalar.muli v2 c4_i32_1476
  let v1949 : BitVec 32 := Scalar.addi c0_i32_1477 v1948
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1478 : BitVec 32 := 2#32
  let v1950 : BitVec 32 := Scalar.muli v5 c2_i32_1478
  let v1951 : BitVec 32 := Scalar.addi v1949 v1950
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1479 : BitVec 32 := 1#32
  let v1952 : BitVec 32 := Scalar.muli v9 c1_i32_1479
  let v1953 : BitVec 32 := Scalar.addi v1951 v1952
  v1953.toNat
def k0_dev57 (d0 : Dev nD) : Nat :=
  let c0_i32_1506 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1505 : BitVec 32 := 4#32
  let v1984 : BitVec 32 := Scalar.muli v2 c4_i32_1505
  let v1985 : BitVec 32 := Scalar.addi c0_i32_1506 v1984
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1507 : BitVec 32 := 2#32
  let v1986 : BitVec 32 := Scalar.muli v5 c2_i32_1507
  let v1987 : BitVec 32 := Scalar.addi v1985 v1986
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_1508 : BitVec 32 := 1#32
  let v1988 : BitVec 32 := Scalar.muli v9 c1_i32_1508
  let v1989 : BitVec 32 := Scalar.addi v1987 v1988
  v1989.toNat
def k0_dev58 (d0 : Dev nD) : Nat :=
  let c0_i32_1524 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1523 : BitVec 32 := 4#32
  let v2009 : BitVec 32 := Scalar.muli v2 c4_i32_1523
  let v2010 : BitVec 32 := Scalar.addi c0_i32_1524 v2009
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1525 : BitVec 32 := 2#32
  let v2011 : BitVec 32 := Scalar.muli v11 c2_i32_1525
  let v2012 : BitVec 32 := Scalar.addi v2010 v2011
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1526 : BitVec 32 := 1#32
  let v2013 : BitVec 32 := Scalar.muli v8 c1_i32_1526
  let v2014 : BitVec 32 := Scalar.addi v2012 v2013
  v2014.toNat
def k0_off7 (d0 : Dev nD) (c0_i32_130 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v31 : BitVec 32 := Scalar.muli v8 c16384_i32
  let c2_i32_24 : BitVec 32 := 2#32
  let c1_i32_23 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.subi c1_i32_23 v2
  let v38 : BitVec 32 := Scalar.muli c2_i32_24 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v39 : BitVec 32 := Scalar.addi v38 v5
  let c4096_i32_25 : BitVec 32 := 4096#32
  let v40 : BitVec 32 := Scalar.muli v39 c4096_i32_25
  let v274 : BitVec 32 := Scalar.addi v40 c0_i32_130
  let v2037 : BitVec 32 := Scalar.addi v31 v274
  let c0_i32_1546 : BitVec 32 := 0#32
  ![v2037.toNat, 0]
def k0_dev59 (d0 : Dev nD) : Nat :=
  let c0_i32_1583 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1582 : BitVec 32 := 4#32
  let v2078 : BitVec 32 := Scalar.muli v10 c4_i32_1582
  let v2079 : BitVec 32 := Scalar.addi c0_i32_1583 v2078
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1584 : BitVec 32 := 2#32
  let v2080 : BitVec 32 := Scalar.muli v5 c2_i32_1584
  let v2081 : BitVec 32 := Scalar.addi v2079 v2080
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1585 : BitVec 32 := 1#32
  let v2082 : BitVec 32 := Scalar.muli v8 c1_i32_1585
  let v2083 : BitVec 32 := Scalar.addi v2081 v2082
  v2083.toNat
def k0_dev60 (d0 : Dev nD) : Nat :=
  let c0_i32_1591 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1590 : BitVec 32 := 4#32
  let v2090 : BitVec 32 := Scalar.muli v2 c4_i32_1590
  let v2091 : BitVec 32 := Scalar.addi c0_i32_1591 v2090
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1592 : BitVec 32 := 2#32
  let v2092 : BitVec 32 := Scalar.muli v11 c2_i32_1592
  let v2093 : BitVec 32 := Scalar.addi v2091 v2092
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1593 : BitVec 32 := 1#32
  let v2094 : BitVec 32 := Scalar.muli v8 c1_i32_1593
  let v2095 : BitVec 32 := Scalar.addi v2093 v2094
  v2095.toNat
def k0_dev61 (d0 : Dev nD) : Nat :=
  let c0_i32_1658 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1657 : BitVec 32 := 4#32
  let v2168 : BitVec 32 := Scalar.muli v10 c4_i32_1657
  let v2169 : BitVec 32 := Scalar.addi c0_i32_1658 v2168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1659 : BitVec 32 := 2#32
  let v2170 : BitVec 32 := Scalar.muli v5 c2_i32_1659
  let v2171 : BitVec 32 := Scalar.addi v2169 v2170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1660 : BitVec 32 := 1#32
  let v2172 : BitVec 32 := Scalar.muli v8 c1_i32_1660
  let v2173 : BitVec 32 := Scalar.addi v2171 v2172
  v2173.toNat
def k0_dev62 (d0 : Dev nD) : Nat :=
  let c0_i32_1727 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1726 : BitVec 32 := 4#32
  let v2247 : BitVec 32 := Scalar.muli v10 c4_i32_1726
  let v2248 : BitVec 32 := Scalar.addi c0_i32_1727 v2247
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1728 : BitVec 32 := 2#32
  let v2249 : BitVec 32 := Scalar.muli v5 c2_i32_1728
  let v2250 : BitVec 32 := Scalar.addi v2248 v2249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1729 : BitVec 32 := 1#32
  let v2251 : BitVec 32 := Scalar.muli v8 c1_i32_1729
  let v2252 : BitVec 32 := Scalar.addi v2250 v2251
  v2252.toNat
def k0_dev63 (d0 : Dev nD) : Nat :=
  let c0_i32_1735 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1734 : BitVec 32 := 4#32
  let v2259 : BitVec 32 := Scalar.muli v2 c4_i32_1734
  let v2260 : BitVec 32 := Scalar.addi c0_i32_1735 v2259
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1736 : BitVec 32 := 2#32
  let v2261 : BitVec 32 := Scalar.muli v11 c2_i32_1736
  let v2262 : BitVec 32 := Scalar.addi v2260 v2261
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1737 : BitVec 32 := 1#32
  let v2263 : BitVec 32 := Scalar.muli v8 c1_i32_1737
  let v2264 : BitVec 32 := Scalar.addi v2262 v2263
  v2264.toNat
def k0_dev64 (d0 : Dev nD) : Nat :=
  let c0_i32_1802 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1801 : BitVec 32 := 4#32
  let v2337 : BitVec 32 := Scalar.muli v2 c4_i32_1801
  let v2338 : BitVec 32 := Scalar.addi c0_i32_1802 v2337
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1803 : BitVec 32 := 2#32
  let v2339 : BitVec 32 := Scalar.muli v11 c2_i32_1803
  let v2340 : BitVec 32 := Scalar.addi v2338 v2339
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1804 : BitVec 32 := 1#32
  let v2341 : BitVec 32 := Scalar.muli v8 c1_i32_1804
  let v2342 : BitVec 32 := Scalar.addi v2340 v2341
  v2342.toNat
def k0_dev65 (d0 : Dev nD) : Nat :=
  let c0_i32_1871 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1870 : BitVec 32 := 4#32
  let v2416 : BitVec 32 := Scalar.muli v10 c4_i32_1870
  let v2417 : BitVec 32 := Scalar.addi c0_i32_1871 v2416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1872 : BitVec 32 := 2#32
  let v2418 : BitVec 32 := Scalar.muli v5 c2_i32_1872
  let v2419 : BitVec 32 := Scalar.addi v2417 v2418
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1873 : BitVec 32 := 1#32
  let v2420 : BitVec 32 := Scalar.muli v8 c1_i32_1873
  let v2421 : BitVec 32 := Scalar.addi v2419 v2420
  v2421.toNat
def k0_dev66 (d0 : Dev nD) : Nat :=
  let c0_i32_1879 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1878 : BitVec 32 := 4#32
  let v2428 : BitVec 32 := Scalar.muli v2 c4_i32_1878
  let v2429 : BitVec 32 := Scalar.addi c0_i32_1879 v2428
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1880 : BitVec 32 := 2#32
  let v2430 : BitVec 32 := Scalar.muli v11 c2_i32_1880
  let v2431 : BitVec 32 := Scalar.addi v2429 v2430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1881 : BitVec 32 := 1#32
  let v2432 : BitVec 32 := Scalar.muli v8 c1_i32_1881
  let v2433 : BitVec 32 := Scalar.addi v2431 v2432
  v2433.toNat
def k0_dev67 (d0 : Dev nD) : Nat :=
  let c0_i32_1946 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1945 : BitVec 32 := 4#32
  let v2506 : BitVec 32 := Scalar.muli v10 c4_i32_1945
  let v2507 : BitVec 32 := Scalar.addi c0_i32_1946 v2506
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1947 : BitVec 32 := 2#32
  let v2508 : BitVec 32 := Scalar.muli v5 c2_i32_1947
  let v2509 : BitVec 32 := Scalar.addi v2507 v2508
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1948 : BitVec 32 := 1#32
  let v2510 : BitVec 32 := Scalar.muli v8 c1_i32_1948
  let v2511 : BitVec 32 := Scalar.addi v2509 v2510
  v2511.toNat
def k0_dev68 (d0 : Dev nD) : Nat :=
  let c0_i32_2015 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2014 : BitVec 32 := 4#32
  let v2585 : BitVec 32 := Scalar.muli v10 c4_i32_2014
  let v2586 : BitVec 32 := Scalar.addi c0_i32_2015 v2585
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2016 : BitVec 32 := 2#32
  let v2587 : BitVec 32 := Scalar.muli v5 c2_i32_2016
  let v2588 : BitVec 32 := Scalar.addi v2586 v2587
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2017 : BitVec 32 := 1#32
  let v2589 : BitVec 32 := Scalar.muli v8 c1_i32_2017
  let v2590 : BitVec 32 := Scalar.addi v2588 v2589
  v2590.toNat
def k0_dev69 (d0 : Dev nD) : Nat :=
  let c0_i32_2023 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2022 : BitVec 32 := 4#32
  let v2597 : BitVec 32 := Scalar.muli v2 c4_i32_2022
  let v2598 : BitVec 32 := Scalar.addi c0_i32_2023 v2597
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2024 : BitVec 32 := 2#32
  let v2599 : BitVec 32 := Scalar.muli v11 c2_i32_2024
  let v2600 : BitVec 32 := Scalar.addi v2598 v2599
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2025 : BitVec 32 := 1#32
  let v2601 : BitVec 32 := Scalar.muli v8 c1_i32_2025
  let v2602 : BitVec 32 := Scalar.addi v2600 v2601
  v2602.toNat
def k0_dev70 (d0 : Dev nD) : Nat :=
  let c0_i32_2090 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2089 : BitVec 32 := 4#32
  let v2675 : BitVec 32 := Scalar.muli v2 c4_i32_2089
  let v2676 : BitVec 32 := Scalar.addi c0_i32_2090 v2675
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2091 : BitVec 32 := 2#32
  let v2677 : BitVec 32 := Scalar.muli v11 c2_i32_2091
  let v2678 : BitVec 32 := Scalar.addi v2676 v2677
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2092 : BitVec 32 := 1#32
  let v2679 : BitVec 32 := Scalar.muli v8 c1_i32_2092
  let v2680 : BitVec 32 := Scalar.addi v2678 v2679
  v2680.toNat
def k0_dev71 (d0 : Dev nD) : Nat :=
  let c0_i32_2159 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2158 : BitVec 32 := 4#32
  let v2754 : BitVec 32 := Scalar.muli v10 c4_i32_2158
  let v2755 : BitVec 32 := Scalar.addi c0_i32_2159 v2754
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2160 : BitVec 32 := 2#32
  let v2756 : BitVec 32 := Scalar.muli v5 c2_i32_2160
  let v2757 : BitVec 32 := Scalar.addi v2755 v2756
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2161 : BitVec 32 := 1#32
  let v2758 : BitVec 32 := Scalar.muli v8 c1_i32_2161
  let v2759 : BitVec 32 := Scalar.addi v2757 v2758
  v2759.toNat
def k0_dev72 (d0 : Dev nD) : Nat :=
  let c0_i32_2167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2166 : BitVec 32 := 4#32
  let v2766 : BitVec 32 := Scalar.muli v2 c4_i32_2166
  let v2767 : BitVec 32 := Scalar.addi c0_i32_2167 v2766
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2168 : BitVec 32 := 2#32
  let v2768 : BitVec 32 := Scalar.muli v11 c2_i32_2168
  let v2769 : BitVec 32 := Scalar.addi v2767 v2768
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2169 : BitVec 32 := 1#32
  let v2770 : BitVec 32 := Scalar.muli v8 c1_i32_2169
  let v2771 : BitVec 32 := Scalar.addi v2769 v2770
  v2771.toNat
def k0_dev73 (d0 : Dev nD) : Nat :=
  let c0_i32_2234 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2233 : BitVec 32 := 4#32
  let v2844 : BitVec 32 := Scalar.muli v10 c4_i32_2233
  let v2845 : BitVec 32 := Scalar.addi c0_i32_2234 v2844
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2235 : BitVec 32 := 2#32
  let v2846 : BitVec 32 := Scalar.muli v5 c2_i32_2235
  let v2847 : BitVec 32 := Scalar.addi v2845 v2846
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2236 : BitVec 32 := 1#32
  let v2848 : BitVec 32 := Scalar.muli v8 c1_i32_2236
  let v2849 : BitVec 32 := Scalar.addi v2847 v2848
  v2849.toNat
def k0_dev74 (d0 : Dev nD) : Nat :=
  let c0_i32_2303 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2302 : BitVec 32 := 4#32
  let v2923 : BitVec 32 := Scalar.muli v10 c4_i32_2302
  let v2924 : BitVec 32 := Scalar.addi c0_i32_2303 v2923
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2304 : BitVec 32 := 2#32
  let v2925 : BitVec 32 := Scalar.muli v5 c2_i32_2304
  let v2926 : BitVec 32 := Scalar.addi v2924 v2925
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2305 : BitVec 32 := 1#32
  let v2927 : BitVec 32 := Scalar.muli v8 c1_i32_2305
  let v2928 : BitVec 32 := Scalar.addi v2926 v2927
  v2928.toNat
def k0_dev75 (d0 : Dev nD) : Nat :=
  let c0_i32_2311 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2310 : BitVec 32 := 4#32
  let v2935 : BitVec 32 := Scalar.muli v2 c4_i32_2310
  let v2936 : BitVec 32 := Scalar.addi c0_i32_2311 v2935
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2312 : BitVec 32 := 2#32
  let v2937 : BitVec 32 := Scalar.muli v11 c2_i32_2312
  let v2938 : BitVec 32 := Scalar.addi v2936 v2937
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2313 : BitVec 32 := 1#32
  let v2939 : BitVec 32 := Scalar.muli v8 c1_i32_2313
  let v2940 : BitVec 32 := Scalar.addi v2938 v2939
  v2940.toNat
def k0_dev76 (d0 : Dev nD) : Nat :=
  let c0_i32_2378 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2377 : BitVec 32 := 4#32
  let v3013 : BitVec 32 := Scalar.muli v2 c4_i32_2377
  let v3014 : BitVec 32 := Scalar.addi c0_i32_2378 v3013
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2379 : BitVec 32 := 2#32
  let v3015 : BitVec 32 := Scalar.muli v11 c2_i32_2379
  let v3016 : BitVec 32 := Scalar.addi v3014 v3015
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2380 : BitVec 32 := 1#32
  let v3017 : BitVec 32 := Scalar.muli v8 c1_i32_2380
  let v3018 : BitVec 32 := Scalar.addi v3016 v3017
  v3018.toNat
def k0_off8 (d0 : Dev nD) (c0_i32_162 : BitVec 32) : Fin 2 → Nat :=
  let c2_i32_26 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_26 v2
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v42 : BitVec 32 := Scalar.subi c1_i32_27 v5
  let v43 : BitVec 32 := Scalar.addi v41 v42
  let c4096_i32_28 : BitVec 32 := 4096#32
  let v44 : BitVec 32 := Scalar.muli v43 c4096_i32_28
  let v306 : BitVec 32 := Scalar.addi v44 c0_i32_162
  let c0_i32_2417 : BitVec 32 := 0#32
  ![v306.toNat, 0]
def k0_dev77 (d0 : Dev nD) : Nat :=
  let c0_i32_2447 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2446 : BitVec 32 := 4#32
  let v3092 : BitVec 32 := Scalar.muli v10 c4_i32_2446
  let v3093 : BitVec 32 := Scalar.addi c0_i32_2447 v3092
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2448 : BitVec 32 := 2#32
  let v3094 : BitVec 32 := Scalar.muli v5 c2_i32_2448
  let v3095 : BitVec 32 := Scalar.addi v3093 v3094
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2449 : BitVec 32 := 1#32
  let v3096 : BitVec 32 := Scalar.muli v8 c1_i32_2449
  let v3097 : BitVec 32 := Scalar.addi v3095 v3096
  v3097.toNat
def k0_dev78 (d0 : Dev nD) : Nat :=
  let c0_i32_2455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2454 : BitVec 32 := 4#32
  let v3104 : BitVec 32 := Scalar.muli v2 c4_i32_2454
  let v3105 : BitVec 32 := Scalar.addi c0_i32_2455 v3104
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2456 : BitVec 32 := 2#32
  let v3106 : BitVec 32 := Scalar.muli v11 c2_i32_2456
  let v3107 : BitVec 32 := Scalar.addi v3105 v3106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2457 : BitVec 32 := 1#32
  let v3108 : BitVec 32 := Scalar.muli v8 c1_i32_2457
  let v3109 : BitVec 32 := Scalar.addi v3107 v3108
  v3109.toNat
def k0_dev79 (d0 : Dev nD) : Nat :=
  let c0_i32_2522 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2521 : BitVec 32 := 4#32
  let v3182 : BitVec 32 := Scalar.muli v10 c4_i32_2521
  let v3183 : BitVec 32 := Scalar.addi c0_i32_2522 v3182
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2523 : BitVec 32 := 2#32
  let v3184 : BitVec 32 := Scalar.muli v5 c2_i32_2523
  let v3185 : BitVec 32 := Scalar.addi v3183 v3184
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2524 : BitVec 32 := 1#32
  let v3186 : BitVec 32 := Scalar.muli v8 c1_i32_2524
  let v3187 : BitVec 32 := Scalar.addi v3185 v3186
  v3187.toNat
def k0_dev80 (d0 : Dev nD) : Nat :=
  let c0_i32_2591 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2590 : BitVec 32 := 4#32
  let v3261 : BitVec 32 := Scalar.muli v10 c4_i32_2590
  let v3262 : BitVec 32 := Scalar.addi c0_i32_2591 v3261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2592 : BitVec 32 := 2#32
  let v3263 : BitVec 32 := Scalar.muli v5 c2_i32_2592
  let v3264 : BitVec 32 := Scalar.addi v3262 v3263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2593 : BitVec 32 := 1#32
  let v3265 : BitVec 32 := Scalar.muli v8 c1_i32_2593
  let v3266 : BitVec 32 := Scalar.addi v3264 v3265
  v3266.toNat
def k0_dev81 (d0 : Dev nD) : Nat :=
  let c0_i32_2599 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2598 : BitVec 32 := 4#32
  let v3273 : BitVec 32 := Scalar.muli v2 c4_i32_2598
  let v3274 : BitVec 32 := Scalar.addi c0_i32_2599 v3273
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2600 : BitVec 32 := 2#32
  let v3275 : BitVec 32 := Scalar.muli v11 c2_i32_2600
  let v3276 : BitVec 32 := Scalar.addi v3274 v3275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2601 : BitVec 32 := 1#32
  let v3277 : BitVec 32 := Scalar.muli v8 c1_i32_2601
  let v3278 : BitVec 32 := Scalar.addi v3276 v3277
  v3278.toNat
def k0_dev82 (d0 : Dev nD) : Nat :=
  let c0_i32_2666 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2665 : BitVec 32 := 4#32
  let v3351 : BitVec 32 := Scalar.muli v2 c4_i32_2665
  let v3352 : BitVec 32 := Scalar.addi c0_i32_2666 v3351
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2667 : BitVec 32 := 2#32
  let v3353 : BitVec 32 := Scalar.muli v11 c2_i32_2667
  let v3354 : BitVec 32 := Scalar.addi v3352 v3353
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2668 : BitVec 32 := 1#32
  let v3355 : BitVec 32 := Scalar.muli v8 c1_i32_2668
  let v3356 : BitVec 32 := Scalar.addi v3354 v3355
  v3356.toNat
def k0_off9 (d0 : Dev nD) (c0_i32_162 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v31 : BitVec 32 := Scalar.muli v8 c16384_i32
  let c2_i32_26 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v41 : BitVec 32 := Scalar.muli c2_i32_26 v2
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v42 : BitVec 32 := Scalar.subi c1_i32_27 v5
  let v43 : BitVec 32 := Scalar.addi v41 v42
  let c4096_i32_28 : BitVec 32 := 4096#32
  let v44 : BitVec 32 := Scalar.muli v43 c4096_i32_28
  let v306 : BitVec 32 := Scalar.addi v44 c0_i32_162
  let v3384 : BitVec 32 := Scalar.addi v31 v306
  let c0_i32_2693 : BitVec 32 := 0#32
  ![v3384.toNat, 0]
def k0_dev83 (d0 : Dev nD) : Nat :=
  let c0_i32_2735 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2734 : BitVec 32 := 4#32
  let v3430 : BitVec 32 := Scalar.muli v10 c4_i32_2734
  let v3431 : BitVec 32 := Scalar.addi c0_i32_2735 v3430
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2736 : BitVec 32 := 2#32
  let v3432 : BitVec 32 := Scalar.muli v5 c2_i32_2736
  let v3433 : BitVec 32 := Scalar.addi v3431 v3432
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2737 : BitVec 32 := 1#32
  let v3434 : BitVec 32 := Scalar.muli v8 c1_i32_2737
  let v3435 : BitVec 32 := Scalar.addi v3433 v3434
  v3435.toNat
def k0_dev84 (d0 : Dev nD) : Nat :=
  let c0_i32_2743 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2742 : BitVec 32 := 4#32
  let v3442 : BitVec 32 := Scalar.muli v2 c4_i32_2742
  let v3443 : BitVec 32 := Scalar.addi c0_i32_2743 v3442
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2744 : BitVec 32 := 2#32
  let v3444 : BitVec 32 := Scalar.muli v11 c2_i32_2744
  let v3445 : BitVec 32 := Scalar.addi v3443 v3444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2745 : BitVec 32 := 1#32
  let v3446 : BitVec 32 := Scalar.muli v8 c1_i32_2745
  let v3447 : BitVec 32 := Scalar.addi v3445 v3446
  v3447.toNat
def k0_dev85 (d0 : Dev nD) : Nat :=
  let c0_i32_2810 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2809 : BitVec 32 := 4#32
  let v3520 : BitVec 32 := Scalar.muli v10 c4_i32_2809
  let v3521 : BitVec 32 := Scalar.addi c0_i32_2810 v3520
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2811 : BitVec 32 := 2#32
  let v3522 : BitVec 32 := Scalar.muli v5 c2_i32_2811
  let v3523 : BitVec 32 := Scalar.addi v3521 v3522
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2812 : BitVec 32 := 1#32
  let v3524 : BitVec 32 := Scalar.muli v8 c1_i32_2812
  let v3525 : BitVec 32 := Scalar.addi v3523 v3524
  v3525.toNat
def k0_dev86 (d0 : Dev nD) : Nat :=
  let c0_i32_2879 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_2878 : BitVec 32 := 4#32
  let v3599 : BitVec 32 := Scalar.muli v10 c4_i32_2878
  let v3600 : BitVec 32 := Scalar.addi c0_i32_2879 v3599
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_2880 : BitVec 32 := 2#32
  let v3601 : BitVec 32 := Scalar.muli v5 c2_i32_2880
  let v3602 : BitVec 32 := Scalar.addi v3600 v3601
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2881 : BitVec 32 := 1#32
  let v3603 : BitVec 32 := Scalar.muli v8 c1_i32_2881
  let v3604 : BitVec 32 := Scalar.addi v3602 v3603
  v3604.toNat
def k0_dev87 (d0 : Dev nD) : Nat :=
  let c0_i32_2887 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2886 : BitVec 32 := 4#32
  let v3611 : BitVec 32 := Scalar.muli v2 c4_i32_2886
  let v3612 : BitVec 32 := Scalar.addi c0_i32_2887 v3611
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2888 : BitVec 32 := 2#32
  let v3613 : BitVec 32 := Scalar.muli v11 c2_i32_2888
  let v3614 : BitVec 32 := Scalar.addi v3612 v3613
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2889 : BitVec 32 := 1#32
  let v3615 : BitVec 32 := Scalar.muli v8 c1_i32_2889
  let v3616 : BitVec 32 := Scalar.addi v3614 v3615
  v3616.toNat
def k0_dev88 (d0 : Dev nD) : Nat :=
  let c0_i32_2954 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_2953 : BitVec 32 := 4#32
  let v3689 : BitVec 32 := Scalar.muli v2 c4_i32_2953
  let v3690 : BitVec 32 := Scalar.addi c0_i32_2954 v3689
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_2955 : BitVec 32 := 2#32
  let v3691 : BitVec 32 := Scalar.muli v11 c2_i32_2955
  let v3692 : BitVec 32 := Scalar.addi v3690 v3691
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_2956 : BitVec 32 := 1#32
  let v3693 : BitVec 32 := Scalar.muli v8 c1_i32_2956
  let v3694 : BitVec 32 := Scalar.addi v3692 v3693
  v3694.toNat
def k0_dev89 (d0 : Dev nD) : Nat :=
  let c0_i32_3023 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3022 : BitVec 32 := 4#32
  let v3768 : BitVec 32 := Scalar.muli v10 c4_i32_3022
  let v3769 : BitVec 32 := Scalar.addi c0_i32_3023 v3768
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3024 : BitVec 32 := 2#32
  let v3770 : BitVec 32 := Scalar.muli v5 c2_i32_3024
  let v3771 : BitVec 32 := Scalar.addi v3769 v3770
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3025 : BitVec 32 := 1#32
  let v3772 : BitVec 32 := Scalar.muli v8 c1_i32_3025
  let v3773 : BitVec 32 := Scalar.addi v3771 v3772
  v3773.toNat
def k0_dev90 (d0 : Dev nD) : Nat :=
  let c0_i32_3031 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3030 : BitVec 32 := 4#32
  let v3780 : BitVec 32 := Scalar.muli v2 c4_i32_3030
  let v3781 : BitVec 32 := Scalar.addi c0_i32_3031 v3780
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_3032 : BitVec 32 := 2#32
  let v3782 : BitVec 32 := Scalar.muli v11 c2_i32_3032
  let v3783 : BitVec 32 := Scalar.addi v3781 v3782
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3033 : BitVec 32 := 1#32
  let v3784 : BitVec 32 := Scalar.muli v8 c1_i32_3033
  let v3785 : BitVec 32 := Scalar.addi v3783 v3784
  v3785.toNat
def k0_dev91 (d0 : Dev nD) : Nat :=
  let c0_i32_3098 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3097 : BitVec 32 := 4#32
  let v3858 : BitVec 32 := Scalar.muli v10 c4_i32_3097
  let v3859 : BitVec 32 := Scalar.addi c0_i32_3098 v3858
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3099 : BitVec 32 := 2#32
  let v3860 : BitVec 32 := Scalar.muli v5 c2_i32_3099
  let v3861 : BitVec 32 := Scalar.addi v3859 v3860
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3100 : BitVec 32 := 1#32
  let v3862 : BitVec 32 := Scalar.muli v8 c1_i32_3100
  let v3863 : BitVec 32 := Scalar.addi v3861 v3862
  v3863.toNat
def k0_dev92 (d0 : Dev nD) : Nat :=
  let c0_i32_3167 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3166 : BitVec 32 := 4#32
  let v3937 : BitVec 32 := Scalar.muli v10 c4_i32_3166
  let v3938 : BitVec 32 := Scalar.addi c0_i32_3167 v3937
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3168 : BitVec 32 := 2#32
  let v3939 : BitVec 32 := Scalar.muli v5 c2_i32_3168
  let v3940 : BitVec 32 := Scalar.addi v3938 v3939
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3169 : BitVec 32 := 1#32
  let v3941 : BitVec 32 := Scalar.muli v8 c1_i32_3169
  let v3942 : BitVec 32 := Scalar.addi v3940 v3941
  v3942.toNat
def k0_dev93 (d0 : Dev nD) : Nat :=
  let c0_i32_3175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3174 : BitVec 32 := 4#32
  let v3949 : BitVec 32 := Scalar.muli v2 c4_i32_3174
  let v3950 : BitVec 32 := Scalar.addi c0_i32_3175 v3949
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_3176 : BitVec 32 := 2#32
  let v3951 : BitVec 32 := Scalar.muli v11 c2_i32_3176
  let v3952 : BitVec 32 := Scalar.addi v3950 v3951
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3177 : BitVec 32 := 1#32
  let v3953 : BitVec 32 := Scalar.muli v8 c1_i32_3177
  let v3954 : BitVec 32 := Scalar.addi v3952 v3953
  v3954.toNat
def k0_dev94 (d0 : Dev nD) : Nat :=
  let c0_i32_3242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3241 : BitVec 32 := 4#32
  let v4027 : BitVec 32 := Scalar.muli v2 c4_i32_3241
  let v4028 : BitVec 32 := Scalar.addi c0_i32_3242 v4027
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_3243 : BitVec 32 := 2#32
  let v4029 : BitVec 32 := Scalar.muli v11 c2_i32_3243
  let v4030 : BitVec 32 := Scalar.addi v4028 v4029
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3244 : BitVec 32 := 1#32
  let v4031 : BitVec 32 := Scalar.muli v8 c1_i32_3244
  let v4032 : BitVec 32 := Scalar.addi v4030 v4031
  v4032.toNat
def k0_dev95 (d0 : Dev nD) : Nat :=
  let c0_i32_3311 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3310 : BitVec 32 := 4#32
  let v4106 : BitVec 32 := Scalar.muli v10 c4_i32_3310
  let v4107 : BitVec 32 := Scalar.addi c0_i32_3311 v4106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3312 : BitVec 32 := 2#32
  let v4108 : BitVec 32 := Scalar.muli v5 c2_i32_3312
  let v4109 : BitVec 32 := Scalar.addi v4107 v4108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3313 : BitVec 32 := 1#32
  let v4110 : BitVec 32 := Scalar.muli v8 c1_i32_3313
  let v4111 : BitVec 32 := Scalar.addi v4109 v4110
  v4111.toNat
def k0_dev96 (d0 : Dev nD) : Nat :=
  let c0_i32_3319 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3318 : BitVec 32 := 4#32
  let v4118 : BitVec 32 := Scalar.muli v2 c4_i32_3318
  let v4119 : BitVec 32 := Scalar.addi c0_i32_3319 v4118
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_3320 : BitVec 32 := 2#32
  let v4120 : BitVec 32 := Scalar.muli v11 c2_i32_3320
  let v4121 : BitVec 32 := Scalar.addi v4119 v4120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3321 : BitVec 32 := 1#32
  let v4122 : BitVec 32 := Scalar.muli v8 c1_i32_3321
  let v4123 : BitVec 32 := Scalar.addi v4121 v4122
  v4123.toNat
def k0_dev97 (d0 : Dev nD) : Nat :=
  let c0_i32_3386 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3385 : BitVec 32 := 4#32
  let v4196 : BitVec 32 := Scalar.muli v10 c4_i32_3385
  let v4197 : BitVec 32 := Scalar.addi c0_i32_3386 v4196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3387 : BitVec 32 := 2#32
  let v4198 : BitVec 32 := Scalar.muli v5 c2_i32_3387
  let v4199 : BitVec 32 := Scalar.addi v4197 v4198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3388 : BitVec 32 := 1#32
  let v4200 : BitVec 32 := Scalar.muli v8 c1_i32_3388
  let v4201 : BitVec 32 := Scalar.addi v4199 v4200
  v4201.toNat
def k0_dev98 (d0 : Dev nD) : Nat :=
  let c0_i32_3455 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3454 : BitVec 32 := 4#32
  let v4275 : BitVec 32 := Scalar.muli v10 c4_i32_3454
  let v4276 : BitVec 32 := Scalar.addi c0_i32_3455 v4275
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3456 : BitVec 32 := 2#32
  let v4277 : BitVec 32 := Scalar.muli v5 c2_i32_3456
  let v4278 : BitVec 32 := Scalar.addi v4276 v4277
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3457 : BitVec 32 := 1#32
  let v4279 : BitVec 32 := Scalar.muli v8 c1_i32_3457
  let v4280 : BitVec 32 := Scalar.addi v4278 v4279
  v4280.toNat
def k0_dev99 (d0 : Dev nD) : Nat :=
  let c0_i32_3463 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3462 : BitVec 32 := 4#32
  let v4287 : BitVec 32 := Scalar.muli v2 c4_i32_3462
  let v4288 : BitVec 32 := Scalar.addi c0_i32_3463 v4287
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_3464 : BitVec 32 := 2#32
  let v4289 : BitVec 32 := Scalar.muli v11 c2_i32_3464
  let v4290 : BitVec 32 := Scalar.addi v4288 v4289
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3465 : BitVec 32 := 1#32
  let v4291 : BitVec 32 := Scalar.muli v8 c1_i32_3465
  let v4292 : BitVec 32 := Scalar.addi v4290 v4291
  v4292.toNat
def k0_dev100 (d0 : Dev nD) : Nat :=
  let c0_i32_3530 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3529 : BitVec 32 := 4#32
  let v4365 : BitVec 32 := Scalar.muli v2 c4_i32_3529
  let v4366 : BitVec 32 := Scalar.addi c0_i32_3530 v4365
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_3531 : BitVec 32 := 2#32
  let v4367 : BitVec 32 := Scalar.muli v11 c2_i32_3531
  let v4368 : BitVec 32 := Scalar.addi v4366 v4367
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3532 : BitVec 32 := 1#32
  let v4369 : BitVec 32 := Scalar.muli v8 c1_i32_3532
  let v4370 : BitVec 32 := Scalar.addi v4368 v4369
  v4370.toNat
def k0_off10 (d0 : Dev nD) (c0_i32_194 : BitVec 32) : Fin 2 → Nat :=
  let c2_i32_30 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v46 : BitVec 32 := Scalar.muli c2_i32_30 v45
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_31 v5
  let v48 : BitVec 32 := Scalar.addi v46 v47
  let c4096_i32_32 : BitVec 32 := 4096#32
  let v49 : BitVec 32 := Scalar.muli v48 c4096_i32_32
  let v338 : BitVec 32 := Scalar.addi v49 c0_i32_194
  let c0_i32_3569 : BitVec 32 := 0#32
  ![v338.toNat, 0]
def k0_dev101 (d0 : Dev nD) : Nat :=
  let c0_i32_3599 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3598 : BitVec 32 := 4#32
  let v4444 : BitVec 32 := Scalar.muli v10 c4_i32_3598
  let v4445 : BitVec 32 := Scalar.addi c0_i32_3599 v4444
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3600 : BitVec 32 := 2#32
  let v4446 : BitVec 32 := Scalar.muli v5 c2_i32_3600
  let v4447 : BitVec 32 := Scalar.addi v4445 v4446
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3601 : BitVec 32 := 1#32
  let v4448 : BitVec 32 := Scalar.muli v8 c1_i32_3601
  let v4449 : BitVec 32 := Scalar.addi v4447 v4448
  v4449.toNat
def k0_dev102 (d0 : Dev nD) : Nat :=
  let c0_i32_3607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3606 : BitVec 32 := 4#32
  let v4456 : BitVec 32 := Scalar.muli v2 c4_i32_3606
  let v4457 : BitVec 32 := Scalar.addi c0_i32_3607 v4456
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_3608 : BitVec 32 := 2#32
  let v4458 : BitVec 32 := Scalar.muli v11 c2_i32_3608
  let v4459 : BitVec 32 := Scalar.addi v4457 v4458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3609 : BitVec 32 := 1#32
  let v4460 : BitVec 32 := Scalar.muli v8 c1_i32_3609
  let v4461 : BitVec 32 := Scalar.addi v4459 v4460
  v4461.toNat
def k0_dev103 (d0 : Dev nD) : Nat :=
  let c0_i32_3674 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3673 : BitVec 32 := 4#32
  let v4534 : BitVec 32 := Scalar.muli v10 c4_i32_3673
  let v4535 : BitVec 32 := Scalar.addi c0_i32_3674 v4534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3675 : BitVec 32 := 2#32
  let v4536 : BitVec 32 := Scalar.muli v5 c2_i32_3675
  let v4537 : BitVec 32 := Scalar.addi v4535 v4536
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3676 : BitVec 32 := 1#32
  let v4538 : BitVec 32 := Scalar.muli v8 c1_i32_3676
  let v4539 : BitVec 32 := Scalar.addi v4537 v4538
  v4539.toNat
def k0_dev104 (d0 : Dev nD) : Nat :=
  let c0_i32_3743 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3742 : BitVec 32 := 4#32
  let v4613 : BitVec 32 := Scalar.muli v10 c4_i32_3742
  let v4614 : BitVec 32 := Scalar.addi c0_i32_3743 v4613
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3744 : BitVec 32 := 2#32
  let v4615 : BitVec 32 := Scalar.muli v5 c2_i32_3744
  let v4616 : BitVec 32 := Scalar.addi v4614 v4615
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3745 : BitVec 32 := 1#32
  let v4617 : BitVec 32 := Scalar.muli v8 c1_i32_3745
  let v4618 : BitVec 32 := Scalar.addi v4616 v4617
  v4618.toNat
def k0_dev105 (d0 : Dev nD) : Nat :=
  let c0_i32_3751 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3750 : BitVec 32 := 4#32
  let v4625 : BitVec 32 := Scalar.muli v2 c4_i32_3750
  let v4626 : BitVec 32 := Scalar.addi c0_i32_3751 v4625
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_3752 : BitVec 32 := 2#32
  let v4627 : BitVec 32 := Scalar.muli v11 c2_i32_3752
  let v4628 : BitVec 32 := Scalar.addi v4626 v4627
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3753 : BitVec 32 := 1#32
  let v4629 : BitVec 32 := Scalar.muli v8 c1_i32_3753
  let v4630 : BitVec 32 := Scalar.addi v4628 v4629
  v4630.toNat
def k0_dev106 (d0 : Dev nD) : Nat :=
  let c0_i32_3818 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3817 : BitVec 32 := 4#32
  let v4703 : BitVec 32 := Scalar.muli v2 c4_i32_3817
  let v4704 : BitVec 32 := Scalar.addi c0_i32_3818 v4703
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_3819 : BitVec 32 := 2#32
  let v4705 : BitVec 32 := Scalar.muli v11 c2_i32_3819
  let v4706 : BitVec 32 := Scalar.addi v4704 v4705
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3820 : BitVec 32 := 1#32
  let v4707 : BitVec 32 := Scalar.muli v8 c1_i32_3820
  let v4708 : BitVec 32 := Scalar.addi v4706 v4707
  v4708.toNat
def k0_off11 (d0 : Dev nD) (c0_i32_194 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c16384_i32 : BitVec 32 := 16384#32
  let v31 : BitVec 32 := Scalar.muli v8 c16384_i32
  let c2_i32_30 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v46 : BitVec 32 := Scalar.muli c2_i32_30 v45
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_31 v5
  let v48 : BitVec 32 := Scalar.addi v46 v47
  let c4096_i32_32 : BitVec 32 := 4096#32
  let v49 : BitVec 32 := Scalar.muli v48 c4096_i32_32
  let v338 : BitVec 32 := Scalar.addi v49 c0_i32_194
  let v4736 : BitVec 32 := Scalar.addi v31 v338
  let c0_i32_3845 : BitVec 32 := 0#32
  ![v4736.toNat, 0]
def k0_dev107 (d0 : Dev nD) : Nat :=
  let c0_i32_3887 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3886 : BitVec 32 := 4#32
  let v4782 : BitVec 32 := Scalar.muli v10 c4_i32_3886
  let v4783 : BitVec 32 := Scalar.addi c0_i32_3887 v4782
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3888 : BitVec 32 := 2#32
  let v4784 : BitVec 32 := Scalar.muli v5 c2_i32_3888
  let v4785 : BitVec 32 := Scalar.addi v4783 v4784
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3889 : BitVec 32 := 1#32
  let v4786 : BitVec 32 := Scalar.muli v8 c1_i32_3889
  let v4787 : BitVec 32 := Scalar.addi v4785 v4786
  v4787.toNat
def k0_dev108 (d0 : Dev nD) : Nat :=
  let c0_i32_3895 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3894 : BitVec 32 := 4#32
  let v4794 : BitVec 32 := Scalar.muli v2 c4_i32_3894
  let v4795 : BitVec 32 := Scalar.addi c0_i32_3895 v4794
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_3896 : BitVec 32 := 2#32
  let v4796 : BitVec 32 := Scalar.muli v11 c2_i32_3896
  let v4797 : BitVec 32 := Scalar.addi v4795 v4796
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3897 : BitVec 32 := 1#32
  let v4798 : BitVec 32 := Scalar.muli v8 c1_i32_3897
  let v4799 : BitVec 32 := Scalar.addi v4797 v4798
  v4799.toNat
def k0_dev109 (d0 : Dev nD) : Nat :=
  let c0_i32_3962 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_3961 : BitVec 32 := 4#32
  let v4872 : BitVec 32 := Scalar.muli v10 c4_i32_3961
  let v4873 : BitVec 32 := Scalar.addi c0_i32_3962 v4872
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_3963 : BitVec 32 := 2#32
  let v4874 : BitVec 32 := Scalar.muli v5 c2_i32_3963
  let v4875 : BitVec 32 := Scalar.addi v4873 v4874
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_3964 : BitVec 32 := 1#32
  let v4876 : BitVec 32 := Scalar.muli v8 c1_i32_3964
  let v4877 : BitVec 32 := Scalar.addi v4875 v4876
  v4877.toNat
def k0_dev110 (d0 : Dev nD) : Nat :=
  let c0_i32_4031 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4030 : BitVec 32 := 4#32
  let v4951 : BitVec 32 := Scalar.muli v10 c4_i32_4030
  let v4952 : BitVec 32 := Scalar.addi c0_i32_4031 v4951
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4032 : BitVec 32 := 2#32
  let v4953 : BitVec 32 := Scalar.muli v5 c2_i32_4032
  let v4954 : BitVec 32 := Scalar.addi v4952 v4953
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4033 : BitVec 32 := 1#32
  let v4955 : BitVec 32 := Scalar.muli v8 c1_i32_4033
  let v4956 : BitVec 32 := Scalar.addi v4954 v4955
  v4956.toNat
def k0_dev111 (d0 : Dev nD) : Nat :=
  let c0_i32_4039 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4038 : BitVec 32 := 4#32
  let v4963 : BitVec 32 := Scalar.muli v2 c4_i32_4038
  let v4964 : BitVec 32 := Scalar.addi c0_i32_4039 v4963
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4040 : BitVec 32 := 2#32
  let v4965 : BitVec 32 := Scalar.muli v11 c2_i32_4040
  let v4966 : BitVec 32 := Scalar.addi v4964 v4965
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4041 : BitVec 32 := 1#32
  let v4967 : BitVec 32 := Scalar.muli v8 c1_i32_4041
  let v4968 : BitVec 32 := Scalar.addi v4966 v4967
  v4968.toNat
def k0_dev112 (d0 : Dev nD) : Nat :=
  let c0_i32_4106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4105 : BitVec 32 := 4#32
  let v5041 : BitVec 32 := Scalar.muli v2 c4_i32_4105
  let v5042 : BitVec 32 := Scalar.addi c0_i32_4106 v5041
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4107 : BitVec 32 := 2#32
  let v5043 : BitVec 32 := Scalar.muli v11 c2_i32_4107
  let v5044 : BitVec 32 := Scalar.addi v5042 v5043
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4108 : BitVec 32 := 1#32
  let v5045 : BitVec 32 := Scalar.muli v8 c1_i32_4108
  let v5046 : BitVec 32 := Scalar.addi v5044 v5045
  v5046.toNat
def k0_dev113 (d0 : Dev nD) : Nat :=
  let c0_i32_4175 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4174 : BitVec 32 := 4#32
  let v5120 : BitVec 32 := Scalar.muli v10 c4_i32_4174
  let v5121 : BitVec 32 := Scalar.addi c0_i32_4175 v5120
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4176 : BitVec 32 := 2#32
  let v5122 : BitVec 32 := Scalar.muli v5 c2_i32_4176
  let v5123 : BitVec 32 := Scalar.addi v5121 v5122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4177 : BitVec 32 := 1#32
  let v5124 : BitVec 32 := Scalar.muli v8 c1_i32_4177
  let v5125 : BitVec 32 := Scalar.addi v5123 v5124
  v5125.toNat
def k0_dev114 (d0 : Dev nD) : Nat :=
  let c0_i32_4183 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4182 : BitVec 32 := 4#32
  let v5132 : BitVec 32 := Scalar.muli v2 c4_i32_4182
  let v5133 : BitVec 32 := Scalar.addi c0_i32_4183 v5132
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4184 : BitVec 32 := 2#32
  let v5134 : BitVec 32 := Scalar.muli v11 c2_i32_4184
  let v5135 : BitVec 32 := Scalar.addi v5133 v5134
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4185 : BitVec 32 := 1#32
  let v5136 : BitVec 32 := Scalar.muli v8 c1_i32_4185
  let v5137 : BitVec 32 := Scalar.addi v5135 v5136
  v5137.toNat
def k0_dev115 (d0 : Dev nD) : Nat :=
  let c0_i32_4250 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4249 : BitVec 32 := 4#32
  let v5210 : BitVec 32 := Scalar.muli v10 c4_i32_4249
  let v5211 : BitVec 32 := Scalar.addi c0_i32_4250 v5210
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4251 : BitVec 32 := 2#32
  let v5212 : BitVec 32 := Scalar.muli v5 c2_i32_4251
  let v5213 : BitVec 32 := Scalar.addi v5211 v5212
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4252 : BitVec 32 := 1#32
  let v5214 : BitVec 32 := Scalar.muli v8 c1_i32_4252
  let v5215 : BitVec 32 := Scalar.addi v5213 v5214
  v5215.toNat
def k0_dev116 (d0 : Dev nD) : Nat :=
  let c0_i32_4319 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4318 : BitVec 32 := 4#32
  let v5289 : BitVec 32 := Scalar.muli v10 c4_i32_4318
  let v5290 : BitVec 32 := Scalar.addi c0_i32_4319 v5289
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4320 : BitVec 32 := 2#32
  let v5291 : BitVec 32 := Scalar.muli v5 c2_i32_4320
  let v5292 : BitVec 32 := Scalar.addi v5290 v5291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4321 : BitVec 32 := 1#32
  let v5293 : BitVec 32 := Scalar.muli v8 c1_i32_4321
  let v5294 : BitVec 32 := Scalar.addi v5292 v5293
  v5294.toNat
def k0_dev117 (d0 : Dev nD) : Nat :=
  let c0_i32_4327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4326 : BitVec 32 := 4#32
  let v5301 : BitVec 32 := Scalar.muli v2 c4_i32_4326
  let v5302 : BitVec 32 := Scalar.addi c0_i32_4327 v5301
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4328 : BitVec 32 := 2#32
  let v5303 : BitVec 32 := Scalar.muli v11 c2_i32_4328
  let v5304 : BitVec 32 := Scalar.addi v5302 v5303
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4329 : BitVec 32 := 1#32
  let v5305 : BitVec 32 := Scalar.muli v8 c1_i32_4329
  let v5306 : BitVec 32 := Scalar.addi v5304 v5305
  v5306.toNat
def k0_dev118 (d0 : Dev nD) : Nat :=
  let c0_i32_4394 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4393 : BitVec 32 := 4#32
  let v5379 : BitVec 32 := Scalar.muli v2 c4_i32_4393
  let v5380 : BitVec 32 := Scalar.addi c0_i32_4394 v5379
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4395 : BitVec 32 := 2#32
  let v5381 : BitVec 32 := Scalar.muli v11 c2_i32_4395
  let v5382 : BitVec 32 := Scalar.addi v5380 v5381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4396 : BitVec 32 := 1#32
  let v5383 : BitVec 32 := Scalar.muli v8 c1_i32_4396
  let v5384 : BitVec 32 := Scalar.addi v5382 v5383
  v5384.toNat
def k0_dev119 (d0 : Dev nD) : Nat :=
  let c0_i32_4463 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4462 : BitVec 32 := 4#32
  let v5458 : BitVec 32 := Scalar.muli v10 c4_i32_4462
  let v5459 : BitVec 32 := Scalar.addi c0_i32_4463 v5458
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4464 : BitVec 32 := 2#32
  let v5460 : BitVec 32 := Scalar.muli v5 c2_i32_4464
  let v5461 : BitVec 32 := Scalar.addi v5459 v5460
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4465 : BitVec 32 := 1#32
  let v5462 : BitVec 32 := Scalar.muli v8 c1_i32_4465
  let v5463 : BitVec 32 := Scalar.addi v5461 v5462
  v5463.toNat
def k0_dev120 (d0 : Dev nD) : Nat :=
  let c0_i32_4471 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4470 : BitVec 32 := 4#32
  let v5470 : BitVec 32 := Scalar.muli v2 c4_i32_4470
  let v5471 : BitVec 32 := Scalar.addi c0_i32_4471 v5470
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4472 : BitVec 32 := 2#32
  let v5472 : BitVec 32 := Scalar.muli v11 c2_i32_4472
  let v5473 : BitVec 32 := Scalar.addi v5471 v5472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4473 : BitVec 32 := 1#32
  let v5474 : BitVec 32 := Scalar.muli v8 c1_i32_4473
  let v5475 : BitVec 32 := Scalar.addi v5473 v5474
  v5475.toNat
def k0_dev121 (d0 : Dev nD) : Nat :=
  let c0_i32_4538 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4537 : BitVec 32 := 4#32
  let v5548 : BitVec 32 := Scalar.muli v10 c4_i32_4537
  let v5549 : BitVec 32 := Scalar.addi c0_i32_4538 v5548
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4539 : BitVec 32 := 2#32
  let v5550 : BitVec 32 := Scalar.muli v5 c2_i32_4539
  let v5551 : BitVec 32 := Scalar.addi v5549 v5550
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4540 : BitVec 32 := 1#32
  let v5552 : BitVec 32 := Scalar.muli v8 c1_i32_4540
  let v5553 : BitVec 32 := Scalar.addi v5551 v5552
  v5553.toNat
def k0_dev122 (d0 : Dev nD) : Nat :=
  let c0_i32_4607 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4606 : BitVec 32 := 4#32
  let v5627 : BitVec 32 := Scalar.muli v10 c4_i32_4606
  let v5628 : BitVec 32 := Scalar.addi c0_i32_4607 v5627
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4608 : BitVec 32 := 2#32
  let v5629 : BitVec 32 := Scalar.muli v5 c2_i32_4608
  let v5630 : BitVec 32 := Scalar.addi v5628 v5629
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4609 : BitVec 32 := 1#32
  let v5631 : BitVec 32 := Scalar.muli v8 c1_i32_4609
  let v5632 : BitVec 32 := Scalar.addi v5630 v5631
  v5632.toNat
def k0_dev123 (d0 : Dev nD) : Nat :=
  let c0_i32_4615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4614 : BitVec 32 := 4#32
  let v5639 : BitVec 32 := Scalar.muli v2 c4_i32_4614
  let v5640 : BitVec 32 := Scalar.addi c0_i32_4615 v5639
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4616 : BitVec 32 := 2#32
  let v5641 : BitVec 32 := Scalar.muli v11 c2_i32_4616
  let v5642 : BitVec 32 := Scalar.addi v5640 v5641
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4617 : BitVec 32 := 1#32
  let v5643 : BitVec 32 := Scalar.muli v8 c1_i32_4617
  let v5644 : BitVec 32 := Scalar.addi v5642 v5643
  v5644.toNat
def k0_dev124 (d0 : Dev nD) : Nat :=
  let c0_i32_4682 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4681 : BitVec 32 := 4#32
  let v5717 : BitVec 32 := Scalar.muli v2 c4_i32_4681
  let v5718 : BitVec 32 := Scalar.addi c0_i32_4682 v5717
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4683 : BitVec 32 := 2#32
  let v5719 : BitVec 32 := Scalar.muli v11 c2_i32_4683
  let v5720 : BitVec 32 := Scalar.addi v5718 v5719
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4684 : BitVec 32 := 1#32
  let v5721 : BitVec 32 := Scalar.muli v8 c1_i32_4684
  let v5722 : BitVec 32 := Scalar.addi v5720 v5721
  v5722.toNat
def k0_dev125 (d0 : Dev nD) : Nat :=
  let c0_i32_4746 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4745 : BitVec 32 := 4#32
  let v5791 : BitVec 32 := Scalar.muli v10 c4_i32_4745
  let v5792 : BitVec 32 := Scalar.addi c0_i32_4746 v5791
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4747 : BitVec 32 := 2#32
  let v5793 : BitVec 32 := Scalar.muli v5 c2_i32_4747
  let v5794 : BitVec 32 := Scalar.addi v5792 v5793
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4748 : BitVec 32 := 1#32
  let v5795 : BitVec 32 := Scalar.muli v8 c1_i32_4748
  let v5796 : BitVec 32 := Scalar.addi v5794 v5795
  v5796.toNat
def k0_dev126 (d0 : Dev nD) : Nat :=
  let c0_i32_4754 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4753 : BitVec 32 := 4#32
  let v5803 : BitVec 32 := Scalar.muli v2 c4_i32_4753
  let v5804 : BitVec 32 := Scalar.addi c0_i32_4754 v5803
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4755 : BitVec 32 := 2#32
  let v5805 : BitVec 32 := Scalar.muli v11 c2_i32_4755
  let v5806 : BitVec 32 := Scalar.addi v5804 v5805
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4756 : BitVec 32 := 1#32
  let v5807 : BitVec 32 := Scalar.muli v8 c1_i32_4756
  let v5808 : BitVec 32 := Scalar.addi v5806 v5807
  v5808.toNat
def k0_dev127 (d0 : Dev nD) : Nat :=
  let c0_i32_4811 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4810 : BitVec 32 := 4#32
  let v5871 : BitVec 32 := Scalar.muli v10 c4_i32_4810
  let v5872 : BitVec 32 := Scalar.addi c0_i32_4811 v5871
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4812 : BitVec 32 := 2#32
  let v5873 : BitVec 32 := Scalar.muli v5 c2_i32_4812
  let v5874 : BitVec 32 := Scalar.addi v5872 v5873
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4813 : BitVec 32 := 1#32
  let v5875 : BitVec 32 := Scalar.muli v8 c1_i32_4813
  let v5876 : BitVec 32 := Scalar.addi v5874 v5875
  v5876.toNat
def k0_dev128 (d0 : Dev nD) : Nat :=
  let c0_i32_4870 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4869 : BitVec 32 := 4#32
  let v5940 : BitVec 32 := Scalar.muli v10 c4_i32_4869
  let v5941 : BitVec 32 := Scalar.addi c0_i32_4870 v5940
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4871 : BitVec 32 := 2#32
  let v5942 : BitVec 32 := Scalar.muli v5 c2_i32_4871
  let v5943 : BitVec 32 := Scalar.addi v5941 v5942
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4872 : BitVec 32 := 1#32
  let v5944 : BitVec 32 := Scalar.muli v8 c1_i32_4872
  let v5945 : BitVec 32 := Scalar.addi v5943 v5944
  v5945.toNat
def k0_dev129 (d0 : Dev nD) : Nat :=
  let c0_i32_4878 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4877 : BitVec 32 := 4#32
  let v5952 : BitVec 32 := Scalar.muli v2 c4_i32_4877
  let v5953 : BitVec 32 := Scalar.addi c0_i32_4878 v5952
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4879 : BitVec 32 := 2#32
  let v5954 : BitVec 32 := Scalar.muli v11 c2_i32_4879
  let v5955 : BitVec 32 := Scalar.addi v5953 v5954
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4880 : BitVec 32 := 1#32
  let v5956 : BitVec 32 := Scalar.muli v8 c1_i32_4880
  let v5957 : BitVec 32 := Scalar.addi v5955 v5956
  v5957.toNat
def k0_dev130 (d0 : Dev nD) : Nat :=
  let c0_i32_4935 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4934 : BitVec 32 := 4#32
  let v6020 : BitVec 32 := Scalar.muli v2 c4_i32_4934
  let v6021 : BitVec 32 := Scalar.addi c0_i32_4935 v6020
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_4936 : BitVec 32 := 2#32
  let v6022 : BitVec 32 := Scalar.muli v11 c2_i32_4936
  let v6023 : BitVec 32 := Scalar.addi v6021 v6022
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4937 : BitVec 32 := 1#32
  let v6024 : BitVec 32 := Scalar.muli v8 c1_i32_4937
  let v6025 : BitVec 32 := Scalar.addi v6023 v6024
  v6025.toNat
def k0_dev131 (d0 : Dev nD) : Nat :=
  let c0_i32_4952 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_4951 : BitVec 32 := 4#32
  let v6044 : BitVec 32 := Scalar.muli v10 c4_i32_4951
  let v6045 : BitVec 32 := Scalar.addi c0_i32_4952 v6044
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4953 : BitVec 32 := 2#32
  let v6046 : BitVec 32 := Scalar.muli v5 c2_i32_4953
  let v6047 : BitVec 32 := Scalar.addi v6045 v6046
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_4954 : BitVec 32 := 1#32
  let v6048 : BitVec 32 := Scalar.muli v8 c1_i32_4954
  let v6049 : BitVec 32 := Scalar.addi v6047 v6048
  v6049.toNat
def k0_off12 (d0 : Dev nD) (c128_i32_66 : BitVec 32) : Fin 2 → Nat :=
  let c1_i32_20 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v32 : BitVec 32 := Scalar.subi c1_i32_20 v8
  let c16384_i32_21 : BitVec 32 := 16384#32
  let v33 : BitVec 32 := Scalar.muli v32 c16384_i32_21
  let c2_i32_30 : BitVec 32 := 2#32
  let c1_i32_29 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v45 : BitVec 32 := Scalar.subi c1_i32_29 v2
  let v46 : BitVec 32 := Scalar.muli c2_i32_30 v45
  let c1_i32_31 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_31 v5
  let v48 : BitVec 32 := Scalar.addi v46 v47
  let c4096_i32_32 : BitVec 32 := 4096#32
  let v49 : BitVec 32 := Scalar.muli v48 c4096_i32_32
  let v178 : BitVec 32 := Scalar.addi v33 v49
  let v179 : BitVec 32 := Scalar.addi v178 c128_i32_66
  let c0_i32_5219 : BitVec 32 := 0#32
  ![v179.toNat, 0]
-- ==== ReferenceIdeal.lean ====
abbrev S32768x1024 : Shape := ⟨2, ![32768, 1024]⟩

abbrev nBuf : Space → Nat
  | .hbm => 2
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Plan.lean ====
/-
  The kernel's order of effects as data: what every device does, in program order, one `Op` per effect
  (the cast of a block, which is two loads and a store, counts as one).

  A block is 128 rows. A device casts the 128 blocks of its own half, numbered by the order in which it
  loads them: 0–31 are the quarter it sends across z, 32–63 the quarter of its x neighbour, 64–95 that of
  its y neighbour, 96–127 the one of the device diagonal to it. The blocks that come from elsewhere are
  numbered by their place in their quarter.
-/
module

public import Mathlib.Data.Fin.Basic
public import Mathlib.Data.List.Basic
public import Mathlib.Data.Fintype.Basic

@[expose] public section

namespace Cert.Plan

/-- A number as an index below 128, and below 32. -/
def f128 (n : ℕ) : Fin 128 := ⟨n % 128, Nat.mod_lt _ (by decide)⟩
def f32 (n : ℕ) : Fin 32 := ⟨n % 32, Nat.mod_lt _ (by decide)⟩

/-- The four kinds of block transfer between devices: across z; forwarded to the x neighbour; forwarded to
    the y neighbour; and the second forward, of what came along one of x and y, along the other (an odd
    block goes to the x neighbour, an even one to the y neighbour). -/
inductive Lane where
  | z | x | y | g
  deriving DecidableEq

instance : Fintype Lane := ⟨{.z, .x, .y, .g}, fun k => by cases k <;> decide⟩

/-- Which neighbour a lane's block goes to: across z (0), x (1), y (2). -/
def laneTo (k : Lane) (i : Fin 32) : Fin 3 :=
  match k with
  | .z => 0 | .x => 1 | .y => 2 | .g => if i.val % 2 = 0 then 2 else 1

/-- The lane on which a block that is sent on arrived: the second forward sends what came along the other
    of x and y. -/
def laneFrom (k : Lane) (i : Fin 32) : Lane :=
  match k with
  | .z => .z | .x => .z | .y => .z | .g => if i.val % 2 = 0 then .x else .y

/-- One effect of the body. -/
inductive Op where
  /-- Signal the neighbour across z (0), x (1), y (2). -/
  | sig (p : Fin 3)
  /-- Wait for the three neighbours' signals. -/
  | bar
  /-- Start, and wait for, the load of a block. -/
  | ld (n : Fin 128)
  | ldw (n : Fin 128)
  /-- Cast a loaded block. -/
  | cast (n : Fin 128)
  /-- Start, and wait for, the store of a cast block into the own result. -/
  | st (n : Fin 128)
  | stw (n : Fin 128)
  /-- Send a block, wait for its arrival from the corresponding neighbour, wait for it to have left. -/
  | snd (k : Lane) (i : Fin 32)
  | rcv (k : Lane) (i : Fin 32)
  | snw (k : Lane) (i : Fin 32)
  deriving DecidableEq

/-- Cast block `n`: wait for its load, keep seven loads ahead, free the slot it is cast into, cast, store, and
    send the blocks of the first quarter across z. -/
def castOps (n : ℕ) : List Op :=
  [.ldw (f128 n)] ++ (if n + 7 < 128 then [.ld (f128 (n + 7))] else [])
    ++ (if 34 ≤ n then [.stw (f128 (n - 2))] else [])
    ++ [.cast (f128 n), .st (f128 n)] ++ (if n < 32 then [.snd .z (f32 n)] else [])

/-- A block from across z has arrived: forward it both ways. -/
def zOps (i : ℕ) : List Op := [.rcv .z (f32 i), .snd .x (f32 i), .snd .y (f32 i)]

/-- A block forwarded by a neighbour has arrived: forward it the other way. -/
def fwdOps (i : ℕ) : List Op := [.rcv (if i % 2 = 0 then .x else .y) (f32 i), .snd .g (f32 i)]

/-- The arrivals in the order the body waits for them. -/
def arrivals (k : ℕ) : List Op :=
  if k < 2 then zOps k
  else if k < 62 then (if k % 2 = 0 then fwdOps (k / 2 - 1) else zOps (k / 2 + 1))
  else fwdOps (k - 32)

/-- The transfers sent on an arrival, waited for at the end. -/
def leavings (k : ℕ) : List Op :=
  (arrivals k).filterMap fun | .snd l i => some (.snw l i) | _ => none

/-- The two casts before the `k`-th arrival, then the arrival. -/
def stage (k : ℕ) : List Op :=
  (if k < 63 then castOps (2 * k + 2) ++ castOps (2 * k + 3) else []) ++ arrivals k

/-- The body after it has read its device index. -/
def plan : List Op :=
  [.sig 0, .sig 1, .sig 2, .bar]
    ++ (List.range 7).map (fun n => .ld (f128 n))
    ++ castOps 0 ++ castOps 1
    ++ (List.range 64).flatMap stage
    ++ (List.range 16).map (fun j => .rcv .x (f32 (2 * j + 1)))
    ++ (List.range 16).map (fun j => .rcv .y (f32 (2 * j)))
    ++ (List.range 16).flatMap (fun j => [.rcv .g (f32 (2 * j + 1)), .rcv .g (f32 (2 * j))])
    ++ (List.range 32).map (fun i => .stw (f128 i)) ++ [.stw 126, .stw 127]
    ++ (List.range 32).map (fun i => .snw .z (f32 i))
    ++ (List.range 64).flatMap leavings

end Cert.Plan

end
-- ==== Proof.State.lean ====
/-
  The bookkeeping of the plan: what a device holds is a set of named resources, every effect takes some and gives
  some, and the whole plan is run on the names alone. A set of names is a number, one bit per name, so that the
  run is evaluated.

  Beside it: the order in which the devices wait. Every payment a device owes another has a level, and a device
  waits only at a level below those of all it still owes.
-/
module

public import proofs.«01_k».proof.Proof.Plan
public import Idealize.SL.BI.BigOp
public import Idealize.ShloMosaic.Lib.Tactic
public import Mathlib.Data.Nat.Bitwise
public import Mathlib.Data.List.FinRange

@[expose] public section

namespace Cert.Plan

/-! ## The resources -/

/-- The name of a resource of one device. `…I` is what a transfer starts from, `…B` what its wait needs, `…D` what is
    left when it is over. -/
inductive Atom where
  /-- A load of block `n`. -/
  | ldI (n : Fin 128) | ldB (n : Fin 128) | ldD (n : Fin 128)
  /-- The load slot block `n` is to use, free; holding block `n`. -/
  | vxE (n : Fin 136) | vxF (n : Fin 128)
  /-- A slot of the blocks kept for sending: free; the share the send takes, the share the store takes. -/
  | vcE (i : Fin 32) | vcL (i : Fin 32) | vcR (i : Fin 32)
  /-- A store slot free; holding block `n`. -/
  | vkE (s : Fin 2) | vkF (n : Fin 128)
  /-- A store of block `n`. -/
  | stI (n : Fin 128) | stB (n : Fin 128) | stD (n : Fin 128)
  /-- A send, and the block it writes at the neighbour. -/
  | sdI (k : Lane) (i : Fin 32) | sdB (k : Lane) (i : Fin 32) | sdD (k : Lane) (i : Fin 32) | tgt (k : Lane) (i : Fin 32)
  /-- An arrival. -/
  | rvI (k : Lane) (i : Fin 32) | rvD (k : Lane) (i : Fin 32)
  /-- A block arrived across z, the share each forward takes; a block arrived on another lane. -/
  | zL (i : Fin 32) | zR (i : Fin 32) | rcF (k : Lane) (i : Fin 32)
  /-- A signal to a neighbour; the wait for the neighbours' signals. -/
  | sg (p : Fin 3) | barI | barD
  deriving DecidableEq

def laneNo : Lane → ℕ | .z => 0 | .x => 1 | .y => 2 | .g => 3
def noLane (n : ℕ) : Lane := match n with | 0 => .z | 1 => .x | 2 => .y | _ => .g

/-- A name's number, and back. -/
def code : Atom → ℕ
  | .ldI n => 256 * 0 + n | .ldB n => 256 * 1 + n | .ldD n => 256 * 2 + n
  | .vxE n => 256 * 3 + n | .vxF n => 256 * 4 + n
  | .vcE i => 256 * 5 + i | .vcL i => 256 * 6 + i | .vcR i => 256 * 7 + i
  | .vkE s => 256 * 8 + s | .vkF n => 256 * 9 + n
  | .stI n => 256 * 10 + n | .stB n => 256 * 11 + n | .stD n => 256 * 12 + n
  | .sdI k i => 256 * 13 + (32 * laneNo k + i) | .sdB k i => 256 * 14 + (32 * laneNo k + i)
  | .sdD k i => 256 * 15 + (32 * laneNo k + i) | .tgt k i => 256 * 16 + (32 * laneNo k + i)
  | .rvI k i => 256 * 17 + (32 * laneNo k + i) | .rvD k i => 256 * 18 + (32 * laneNo k + i)
  | .zL i => 256 * 19 + i | .zR i => 256 * 20 + i | .rcF k i => 256 * 21 + (32 * laneNo k + i)
  | .sg p => 256 * 22 + p | .barI => 256 * 23 | .barD => 256 * 24

def dec (c : ℕ) : Atom :=
  let n := c % 256
  match c / 256 with
  | 0 => .ldI (f128 n) | 1 => .ldB (f128 n) | 2 => .ldD (f128 n)
  | 3 => .vxE ⟨n % 136, Nat.mod_lt _ (by decide)⟩ | 4 => .vxF (f128 n)
  | 5 => .vcE (f32 n) | 6 => .vcL (f32 n) | 7 => .vcR (f32 n)
  | 8 => .vkE ⟨n % 2, Nat.mod_lt _ (by decide)⟩ | 9 => .vkF (f128 n)
  | 10 => .stI (f128 n) | 11 => .stB (f128 n) | 12 => .stD (f128 n)
  | 13 => .sdI (noLane (n / 32)) (f32 n) | 14 => .sdB (noLane (n / 32)) (f32 n)
  | 15 => .sdD (noLane (n / 32)) (f32 n) | 16 => .tgt (noLane (n / 32)) (f32 n)
  | 17 => .rvI (noLane (n / 32)) (f32 n) | 18 => .rvD (noLane (n / 32)) (f32 n)
  | 19 => .zL (f32 n) | 20 => .zR (f32 n) | 21 => .rcF (noLane (n / 32)) (f32 n)
  | 22 => .sg ⟨n % 3, Nat.mod_lt _ (by decide)⟩ | 23 => .barI | _ => .barD

theorem dec_code (a : Atom) : dec (code a) = a := by
  cases a with
  | sdI k i => revert i; cases k <;> decide +kernel
  | sdB k i => revert i; cases k <;> decide +kernel
  | sdD k i => revert i; cases k <;> decide +kernel
  | tgt k i => revert i; cases k <;> decide +kernel
  | rvI k i => revert i; cases k <;> decide +kernel
  | rvD k i => revert i; cases k <;> decide +kernel
  | rcF k i => revert i; cases k <;> decide +kernel
  | barI => rfl
  | barD => rfl
  | ldI n => revert n; decide +kernel
  | ldB n => revert n; decide +kernel
  | ldD n => revert n; decide +kernel
  | vxE n => revert n; decide +kernel
  | vxF n => revert n; decide +kernel
  | vcE n => revert n; decide +kernel
  | vcL n => revert n; decide +kernel
  | vcR n => revert n; decide +kernel
  | vkE n => revert n; decide +kernel
  | vkF n => revert n; decide +kernel
  | stI n => revert n; decide +kernel
  | stB n => revert n; decide +kernel
  | stD n => revert n; decide +kernel
  | zL n => revert n; decide +kernel
  | zR n => revert n; decide +kernel
  | sg n => revert n; decide +kernel

theorem code_lt (a : Atom) : code a < 8192 := by
  have hk : ∀ k : Lane, laneNo k < 4 := by decide
  cases a with
  | sdI k i => have := hk k; simp only [code]; omega
  | sdB k i => have := hk k; simp only [code]; omega
  | sdD k i => have := hk k; simp only [code]; omega
  | tgt k i => have := hk k; simp only [code]; omega
  | rvI k i => have := hk k; simp only [code]; omega
  | rvD k i => have := hk k; simp only [code]; omega
  | rcF k i => have := hk k; simp only [code]; omega
  | _ => simp only [code]; omega

/-! ## What an effect takes and gives -/

/-- What a send reads. -/
def srcAtom (k : Lane) (i : Fin 32) : Atom :=
  match k with
  | .z => .vcL i | .x => .zL i | .y => .zR i | .g => .rcF (laneFrom .g i) i

/-- The lanes' blocks. -/
def lanes : List (Lane × Fin 32) := [Lane.z, .x, .y, .g].flatMap fun k => (List.finRange 32).map fun i => (k, i)

/-- The slot of a store, as it is held before and after. -/
def stFull (n : Fin 128) : Atom := if n.val < 32 then .vcR (f32 n.val) else .vkF n
def stFree (n : Fin 128) : Atom := if n.val < 32 then .vcR (f32 n.val) else .vkE ⟨n.val % 2, Nat.mod_lt _ (by decide)⟩

def castNeed (n : Fin 128) : Atom := if n.val < 32 then .vcE (f32 n.val) else .vkE ⟨n.val % 2, Nat.mod_lt _ (by decide)⟩
def castGive (n : Fin 128) : List Atom := if n.val < 32 then [.vcL (f32 n.val), .vcR (f32 n.val)] else [.vkF n]

def need : Op → List Atom
  | .sig p => [.sg p]
  | .bar => [.barI]
  | .ld n => [.ldI n, .vxE ⟨n.val, by omega⟩]
  | .ldw n => [.ldB n]
  | .cast n => [.vxF n, castNeed n]
  | .st n => [.stI n, stFull n]
  | .stw n => [.stB n]
  | .snd k i => [.sdI k i, srcAtom k i, .tgt k i]
  | .rcv k i => [.rvI k i]
  | .snw k i => [.sdB k i]

def give : Op → List Atom
  | .sig _ => []
  | .bar => .barD :: lanes.map fun p => .tgt p.1 p.2
  | .ld n => [.ldB n]
  | .ldw n => [.vxF n, .ldD n]
  | .cast n => .vxE ⟨n.val + 8, by omega⟩ :: castGive n
  | .st n => [.stB n]
  | .stw n => [.stD n, stFree n]
  | .snd k i => [.sdB k i]
  | .rcv .z i => [.rvD .z i, .zL i, .zR i]
  | .rcv k i => [.rvD k i, .rcF k i]
  | .snw k i => [.sdD k i, srcAtom k i]

/-! ## The run on names -/

def takeAll : List Atom → ℕ → Option ℕ
  | [], S => some S
  | a :: l, S => if S.testBit (code a) then takeAll l (S ^^^ 2 ^ code a) else none

def putAll : List Atom → ℕ → Option ℕ
  | [], S => some S
  | a :: l, S => if S.testBit (code a) then none else putAll l (S ^^^ 2 ^ code a)

def run : List Op → ℕ → Option ℕ
  | [], S => some S
  | o :: os, S =>
    match takeAll (need o) S with
    | none => none
    | some S' =>
      match putAll (give o) S' with
      | none => none
      | some S'' => run os S''

/-- What a device starts with, and what it ends with. -/
def initL : List Atom :=
  (List.finRange 128).map .ldI ++ (List.finRange 128).map .stI ++ (List.finRange 8).map (fun s => .vxE ⟨s.val, by omega⟩)
    ++ (List.finRange 32).map .vcE ++ (List.finRange 2).map .vkE
    ++ lanes.map (fun p => .sdI p.1 p.2) ++ lanes.map (fun p => .rvI p.1 p.2) ++ (List.finRange 3).map .sg ++ [.barI]

def finL : List Atom :=
  (List.finRange 128).map .ldD ++ (List.finRange 128).map .stD ++ (List.finRange 8).map (fun s => .vxE ⟨128 + s.val, by omega⟩)
    ++ (List.finRange 32).map .vcL ++ (List.finRange 32).map .vcR ++ (List.finRange 2).map .vkE
    ++ lanes.map (fun p => .sdD p.1 p.2) ++ lanes.map (fun p => .rvD p.1 p.2)
    ++ (List.finRange 32).map .zL ++ (List.finRange 32).map .zR ++ (List.finRange 32).map (.rcF .x) ++ (List.finRange 32).map (.rcF .y)
    ++ (List.finRange 32).map (.rcF .g) ++ [.barD]

theorem run_ok : (((putAll initL 0).bind (run plan)).bind (takeAll finL)).isSome = true := by decide +kernel

theorem run_plan : ∃ S₀ S₁ S₂, putAll initL 0 = some S₀ ∧ run plan S₀ = some S₁ ∧ takeAll finL S₁ = some S₂ := by
  have h := run_ok
  cases h0 : putAll initL 0 with
  | none => rw [h0] at h; exact absurd h (by decide)
  | some S₀ =>
    rw [h0, Option.bind_some] at h
    cases h1 : run plan S₀ with
    | none => rw [h1] at h; exact absurd h (by decide)
    | some S₁ =>
      rw [h1, Option.bind_some] at h
      cases h2 : takeAll finL S₁ with
      | none => rw [h2] at h; exact absurd h (by decide)
      | some S₂ => exact ⟨S₀, S₁, S₂, rfl, h1, h2⟩

/-! ## Levels -/

/-- The level of an arrival's semaphore. -/
def rvLv (k : Lane) (i : Fin 32) : ℕ :=
  match k with
  | .z => 2 * i.val + 2 | .x => 2 * i.val + 3 | .y => 2 * i.val + 3 | .g => 1000

/-- The level of what an effect pays to another device, of what it waits for. -/
def payLv : Op → Option ℕ
  | .sig _ => some 1
  | .snd k i => some (rvLv k i)
  | _ => none
def waitLv : Op → Option ℕ
  | .bar => some 1
  | .ldw _ => some 0 | .stw _ => some 0 | .snw _ _ => some 0
  | .rcv k i => some (rvLv k i)
  | _ => none

/-- The least level still to be paid, 2000 if nothing is. -/
def minLv : List Op → ℕ
  | [] => 2000
  | o :: os => match payLv o with | none => minLv os | some l => min l (minLv os)

/-- Every wait is below all that is still to be paid. -/
def lvOk : List Op → Bool
  | [] => true
  | o :: os => (match waitLv o with | none => true | some w => decide (w < minLv os)) && lvOk os

theorem minLv_le (o : Op) (os : List Op) (l : ℕ) (h : o ∈ os) (hl : payLv o = some l) : minLv os ≤ l := by
  induction os with
  | nil => exact absurd h (List.not_mem_nil)
  | cons o' os ih =>
    rcases List.mem_cons.mp h with rfl | h
    · simp only [minLv, hl]; exact Nat.min_le_left _ _
    · have := ih h
      simp only [minLv]
      cases payLv o' with
      | none => exact this
      | some l' => exact (Nat.min_le_right _ _).trans this

theorem lvOk_plan : lvOk plan = true := by decide +kernel

end Cert.Plan
-- ==== Proof.Sep.lean ====
/-
  Separating conjunction over a list, and over a set of names given by its bits.
-/
module

public import proofs.«01_k».proof.Proof.State
public import Idealize.ShloMosaic.Lib.Ring

@[expose] public section

noncomputable section

namespace Cert.Plan

open Idealize.ShloMosaic
open Idealize.SL Idealize.SL.RA Idealize.SL.BI
open scoped Idealize.SL.BI
open Idealize.SL.BI.BIBase Idealize.SL.BI.Laws Idealize.SL.ProofMode

variable {M : Type} [URA M]

/-- Two assertions that entail each other are equal. -/
theorem eq_of_entails {P Q : sProp M} (h : P ⊢ Q) (h' : Q ⊢ P) : P = Q := BI.Entails.antisymm h h'

/-! ## Over a list -/

def sepL {α : Type} (l : List α) (f : α → sProp M) : sProp M :=
  match l with
  | [] => iprop(emp)
  | a :: l => iprop(f a ∗ sepL l f)

section List
variable {α β : Type}

theorem sepL_nil (f : α → sProp M) : sepL [] f = iprop(emp) := rfl
theorem sepL_cons (a : α) (l : List α) (f : α → sProp M) : sepL (a :: l) f = iprop(f a ∗ sepL l f) := rfl

theorem sepL_map (g : α → β) (l : List α) (f : β → sProp M) : sepL (l.map g) f = sepL l fun a => f (g a) := by
  induction l with
  | nil => rfl
  | cons a l ih => rw [List.map_cons, sepL_cons, sepL_cons, ih]

theorem sepL_append (l l' : List α) (f : α → sProp M) : sepL (l ++ l') f = iprop(sepL l f ∗ sepL l' f) := by
  induction l with
  | nil =>
    rw [List.nil_append, sepL_nil]
    refine eq_of_entails ?_ ?_
    · iintro H; isplitr
      · iempintro
      iexact H
    · iintro ⟨-, H⟩; iexact H
  | cons a l ih =>
    rw [List.cons_append, sepL_cons, sepL_cons, ih]
    exact eq_of_entails (by iintro ⟨H1, H2, H3⟩; isplitr [H3]; (isplitl [H1] <;> iassumption); iexact H3)
      (by iintro ⟨⟨H1, H2⟩, H3⟩; isplitl [H1]; (iexact H1); isplitl [H2] <;> iassumption)

theorem sepL_mono (l : List α) (f g : α → sProp M) (h : ∀ a, f a ⊢ g a) : sepL l f ⊢ sepL l g := by
  induction l with
  | nil => exact Entails.refl _
  | cons a l ih => exact BIClass.sep_mono (h a) ih

/-- A list with every index once is the whole finite type. -/
theorem sepL_univ [Fintype α] [DecidableEq α] (l : List α) (hn : l.Nodup) (hm : ∀ a, a ∈ l) (f : α → sProp M) :
    bigSep Finset.univ f = sepL l f := by
  have h : ∀ l : List α, l.Nodup → bigSep l.toFinset f = sepL l f := by
    intro l hn
    induction l with
    | nil => rfl
    | cons a l ih =>
      have := List.nodup_cons.mp hn
      rw [List.toFinset_cons, bigSep_insert (by rw [List.mem_toFinset]; exact this.1), ih this.2]; rfl
  rw [← h l hn]
  congr 1
  exact (Finset.eq_univ_of_forall fun a => List.mem_toFinset.mpr (hm a)).symm

theorem sepL_finRange (n : ℕ) (f : Fin n → sProp M) : bigSep Finset.univ f = sepL (List.finRange n) f :=
  sepL_univ _ (List.nodup_finRange n) (List.mem_finRange) f

theorem lanes_nodup : lanes.Nodup := by decide +kernel
theorem mem_lanes (p : Lane × Fin 32) : p ∈ lanes := by
  obtain ⟨k, i⟩ := p; revert i; cases k <;> decide +kernel

theorem sepL_lanes (f : Lane × Fin 32 → sProp M) : bigSep Finset.univ f = sepL lanes f :=
  sepL_univ _ lanes_nodup mem_lanes f

/-- A list sorted into three by a label. -/
theorem sepL_three (g : α → Fin 3) (l : List α) (f : α → sProp M) :
    iprop(sepL (l.filter (g · = 0)) f ∗ sepL (l.filter (g · = 1)) f ∗ sepL (l.filter (g · = 2)) f) = sepL l f := by
  induction l with
  | nil =>
    simp only [List.filter_nil, sepL_nil]
    exact eq_of_entails (by iintro -; iempintro) (by iintro -; isplitr; (iempintro); isplitr <;> iempintro)
  | cons a l ih =>
    rw [sepL_cons, ← ih]
    have h : g a = 0 ∨ g a = 1 ∨ g a = 2 := by revert a; intro a; generalize g a = x; revert x; decide
    rcases h with h | h | h <;>
      simp only [List.filter_cons, h, decide_true, if_true, sepL_cons, Fin.isValue, reduceCtorEq, decide_false, if_false,
        show ((0 : Fin 3) = 1) = False from by decide, show ((0 : Fin 3) = 2) = False from by decide,
        show ((1 : Fin 3) = 0) = False from by decide, show ((1 : Fin 3) = 2) = False from by decide,
        show ((2 : Fin 3) = 0) = False from by decide, show ((2 : Fin 3) = 1) = False from by decide, Bool.false_eq_true]
    · exact eq_of_entails
        (by iintro ⟨⟨H, H1⟩, H2, H3⟩; isplitl [H]; (iexact H); isplitl [H1]; (iexact H1); isplitl [H2] <;> iassumption)
        (by iintro ⟨H, H1, H2, H3⟩; isplitl [H H1]; (isplitl [H] <;> iassumption); isplitl [H2] <;> iassumption)
    · exact eq_of_entails
        (by iintro ⟨H1, ⟨H, H2⟩, H3⟩; isplitl [H]; (iexact H); isplitl [H1]; (iexact H1); isplitl [H2] <;> iassumption)
        (by iintro ⟨H, H1, H2, H3⟩; isplitl [H1]; (iexact H1); isplitl [H H2]; (isplitl [H] <;> iassumption); iassumption)
    · exact eq_of_entails
        (by iintro ⟨H1, H2, ⟨H, H3⟩⟩; isplitl [H]; (iexact H); isplitl [H1]; (iexact H1); isplitl [H2] <;> iassumption)
        (by iintro ⟨H, H1, H2, H3⟩; isplitl [H1]; (iexact H1); isplitl [H2]; (iexact H2); isplitl [H] <;> iassumption)

end List

/-! ## Over the bits of a number -/

variable (A : Atom → sProp M)

/-- The names whose bits are set, each held. -/
@[irreducible] def held (S : ℕ) : sProp M := bigSep ((Finset.range 8192).filter fun k => S.testBit k = true) fun k => A (dec k)

theorem filter_bit (S : ℕ) (a : Atom) (h : S.testBit (code a) = true) :
    (Finset.range 8192).filter (fun k => S.testBit k = true)
      = insert (code a) ((Finset.range 8192).filter fun k => (S ^^^ 2 ^ code a).testBit k = true) := by
  ext k
  simp only [Finset.mem_filter, Finset.mem_range, Finset.mem_insert, Nat.testBit_xor, Nat.testBit_two_pow]
  have := code_lt a
  by_cases hk : code a = k
  · subst hk; simp [h, this]
  · simp [hk, Ne.symm hk]

theorem held_bit (S : ℕ) (a : Atom) (h : S.testBit (code a) = true) : held A S = iprop(A a ∗ held A (S ^^^ 2 ^ code a)) := by
  unfold held
  rw [filter_bit S a h, bigSep_insert (by simp [Nat.testBit_xor, Nat.testBit_two_pow, h]), dec_code]
  rfl

theorem held_zero : held A 0 = iprop(emp) := by
  unfold held
  rw [Finset.filter_false_of_mem (by intro k _; simp), bigSep_empty]
  rfl

theorem held_take (l : List Atom) (S S' : ℕ) (h : takeAll l S = some S') : held A S ⊢ iprop(sepL l A ∗ held A S') := by
  induction l generalizing S with
  | nil => cases h; iintro H; isplitr; · iempintro
           iexact H
  | cons a l ih =>
    unfold takeAll at h
    by_cases hb : S.testBit (code a) = true
    · rw [if_pos hb] at h
      rw [held_bit A S a hb, sepL_cons]
      refine (sep_mono_right (ih _ h)).trans ?_
      iintro ⟨H1, H2, H3⟩
      isplitr [H3]
      · isplitl [H1] <;> iassumption
      iexact H3
    · rw [if_neg hb] at h; cases h

theorem putAll_cons (a : Atom) (l : List Atom) (S : ℕ) :
    putAll (a :: l) S = if S.testBit (code a) then none else putAll l (S ^^^ 2 ^ code a) := rfl

theorem flip_bit (S c : ℕ) (h : ¬ S.testBit c = true) : (S ^^^ 2 ^ c).testBit c = true := by
  rw [Nat.testBit_xor, Nat.testBit_two_pow_self]
  cases hb : S.testBit c
  · rfl
  · exact absurd hb h
theorem flip_flip (S c : ℕ) : S ^^^ 2 ^ c ^^^ 2 ^ c = S := by rw [Nat.xor_assoc, Nat.xor_self, Nat.xor_zero]

theorem held_put (l : List Atom) (S S' : ℕ) (h : putAll l S = some S') : iprop(sepL l A ∗ held A S) ⊢ held A S' := by
  induction l generalizing S with
  | nil => cases h; iintro ⟨-, H⟩; iexact H
  | cons a l ih =>
    rw [putAll_cons] at h
    split at h
    · cases h
    · rename_i hb
      have h2 := held_bit A (S ^^^ 2 ^ code a) a (flip_bit S _ hb)
      rw [flip_flip] at h2
      generalize S ^^^ 2 ^ code a = T at h h2
      refine BIBase.Entails.trans ?_ (ih T h)
      refine BIBase.Entails.trans ?_ (sep_mono_right (Entails.of_eq h2.symm))
      rw [sepL_cons]
      generalize held A S = X, sepL l A = Y, A a = Z
      iintro ⟨⟨H1, H2⟩, H3⟩
      isplitl [H2]; · iexact H2
      isplitl [H1]; · iexact H1
      iexact H3

end Cert.Plan

end
-- ==== Proof.K.Exec.lean ====
/-
  The kernel's body as the run of the plan: the memrefs and semaphores each effect names as functions of the
  block, the program of a list of effects, and that the printed body is the program of `Plan.plan`.
-/
module

public import proofs.«01_k».proof.Proof.Plan
public import proofs.«01_k».proof.Proof.Gen.Kernel.Launch
public import proofs.«01_k».proof.Proof.Gen.Kernel.Points

@[expose] public section

noncomputable section

namespace Cert.Kernel.Run

open Idealize.ShloMosaic Idealize.ShloMosaic.TcCoe Idealize.SL Idealize.SL.Sem Cert.Plan Cert.Kernel.Gen

variable {F : FTy → Type} [FloatOps F]

/-! ## The memrefs -/

abbrev xA : Memref sig .tc .hbm S16384x1024 .f32 := Memref.whole main_arg0
abbrev oA : Memref sig .tc .hbm S32768x1024 .bf16 := Memref.whole main_v1
abbrev vxA : Memref sig .tc .vmem S8x128x1024 .f32 := Memref.whole cc0_scratch0
abbrev vcA : Memref sig .tc .vmem S32x128x1024 .bf16 := Memref.whole cc0_scratch1
abbrev vkA : Memref sig .tc .vmem S2x128x1024 .bf16 := Memref.whole cc0_scratch2

theorem inb_vx (s : Fin 8) : ∀ a, (![s.val, 0, 0] : Fin 3 → Nat) a + S1x128x1024.size a ≤ S8x128x1024.size a := by
  revert s; decide
theorem inb_vc (s : Fin 32) : ∀ a, (![s.val, 0, 0] : Fin 3 → Nat) a + S1x128x1024.size a ≤ S32x128x1024.size a := by
  revert s; decide
theorem inb_vk (s : Fin 2) : ∀ a, (![s.val, 0, 0] : Fin 3 → Nat) a + S1x128x1024.size a ≤ S2x128x1024.size a := by
  revert s; decide

/-- Slot `s` of the loaded blocks, of the blocks kept for sending, of the two kept for storing only. -/
abbrev vxR (s : Fin 8) : Rect S8x128x1024 := Rect.unit (s := S8x128x1024) ![s.val, 0, 0] S1x128x1024.size (inb_vx s)
abbrev vcR (s : Fin 32) : Rect S32x128x1024 := Rect.unit (s := S32x128x1024) ![s.val, 0, 0] S1x128x1024.size (inb_vc s)
abbrev vkR (s : Fin 2) : Rect S2x128x1024 := Rect.unit (s := S2x128x1024) ![s.val, 0, 0] S1x128x1024.size (inb_vk s)
abbrev vxM (s : Fin 8) : Memref sig .tc .vmem S128x1024 .f32 :=
  (vxA.slice (vxR s) (fun _ => rfl) : Memref sig .tc .vmem S1x128x1024 .f32).squeeze S128x1024 squeezes_S1x128x1024_S128x1024
abbrev vcM (s : Fin 32) : Memref sig .tc .vmem S128x1024 .bf16 :=
  (vcA.slice (vcR s) (fun _ => rfl) : Memref sig .tc .vmem S1x128x1024 .bf16).squeeze S128x1024 squeezes_S1x128x1024_S128x1024
abbrev vkM (s : Fin 2) : Memref sig .tc .vmem S128x1024 .bf16 :=
  (vkA.slice (vkR s) (fun _ => rfl) : Memref sig .tc .vmem S1x128x1024 .bf16).squeeze S128x1024 squeezes_S1x128x1024_S128x1024

theorem packed_vc (s : Fin 32) : (vcR s).PackedRows (EltTy.packing .bf16) := by revert s; decide
theorem packed_vk (s : Fin 2) : (vkR s).PackedRows (EltTy.packing .bf16) := by revert s; decide
theorem words_vc (s : Fin 32) : (vcR s).WholeWords (EltTy.packing .bf16) := by revert s; decide
theorem words_vk (s : Fin 2) : (vkR s).WholeWords (EltTy.packing .bf16) := by revert s; decide

/-- A block's number within its quarter, its load slot, the one of its two store slots. -/
abbrev blk (n : Fin 128) : Fin 32 := ⟨n.val % 32, Nat.mod_lt _ (by decide)⟩
abbrev slot8 (n : Fin 128) : Fin 8 := ⟨n.val % 8, Nat.mod_lt _ (by decide)⟩
abbrev slot2 (n : Fin 128) : Fin 2 := ⟨n.val % 2, Nat.mod_lt _ (by decide)⟩

/-- A row constant as the kernel passes it. -/
abbrev rowW (i : Fin 32) : BitVec 32 := BitVec.ofNat 32 (128 * i.val)

/-- Where own block `n` lies in the argument. -/
def xOff (d : Dev nD) (n : Fin 128) : Fin 2 → Nat :=
  if n.val < 32 then k0_off1 d (rowW (blk n)) else if n.val < 64 then k0_off6 d (rowW (blk n))
  else if n.val < 96 then k0_off8 d (rowW (blk n)) else k0_off10 d (rowW (blk n))
/-- Where it lies in the result. -/
def oOff (d : Dev nD) (n : Fin 128) : Fin 2 → Nat :=
  if n.val < 32 then k0_off2 d (rowW (blk n)) else if n.val < 64 then k0_off7 d (rowW (blk n))
  else if n.val < 96 then k0_off9 d (rowW (blk n)) else k0_off11 d (rowW (blk n))
/-- Where a block that arrives on a lane lies in the result: of the own quarter from across z, of the x
    neighbour's, the y neighbour's and the diagonal device's. -/
def rOff (k : Lane) (d : Dev nD) (i : Fin 32) : Fin 2 → Nat :=
  match k with
  | .z => k0_off3 d (rowW i) | .x => k0_off4 d (rowW i) | .y => k0_off5 d (rowW i) | .g => k0_off12 d (rowW i)

theorem xOff_inb (d : Dev nD) (n : Fin 128) : ∀ a, xOff d n a + S128x1024.size a ≤ S16384x1024.size a := by
  unfold xOff; split_ifs
  exacts [k0_off1_inb d _, k0_off6_inb d _, k0_off8_inb d _, k0_off10_inb d _]
theorem oOff_inb (d : Dev nD) (n : Fin 128) : ∀ a, oOff d n a + S128x1024.size a ≤ S32768x1024.size a := by
  unfold oOff; split_ifs
  exacts [k0_off2_inb d _, k0_off7_inb d _, k0_off9_inb d _, k0_off11_inb d _]
theorem rOff_inb (k : Lane) (d : Dev nD) (i : Fin 32) : ∀ a, rOff k d i a + S128x1024.size a ≤ S32768x1024.size a := by
  cases k
  exacts [k0_off3_inb d _, k0_off4_inb d _, k0_off5_inb d _, k0_off12_inb d _]

abbrev oR (o : Fin 2 → Nat) (h : ∀ a, o a + S128x1024.size a ≤ S32768x1024.size a) : Rect S32768x1024 :=
  Rect.unit (s := S32768x1024) o S128x1024.size h

theorem words_o (d : Dev nD) (n : Fin 128) : (oR (oOff d n) (oOff_inb d n)).WholeWords (EltTy.packing .bf16) := by
  have h : ∀ (o : Fin 2 → Nat) (e : oOff d n = o) (h : ∀ a, o a + S128x1024.size a ≤ S32768x1024.size a),
      (oR o h).WholeWords (EltTy.packing .bf16) → (oR (oOff d n) (oOff_inb d n)).WholeWords (EltTy.packing .bf16) := by
    rintro _ rfl _ h; exact h
  by_cases h1 : n.val < 32
  · exact h _ (if_pos h1) _ (k0_off2_wordsbf16 d _)
  by_cases h2 : n.val < 64
  · exact h _ ((if_neg h1).trans (if_pos h2)) _ (k0_off7_wordsbf16 d _)
  by_cases h3 : n.val < 96
  · exact h _ ((if_neg h1).trans ((if_neg h2).trans (if_pos h3))) _ (k0_off9_wordsbf16 d _)
  · exact h _ ((if_neg h1).trans ((if_neg h2).trans (if_neg h3))) _ (k0_off11_wordsbf16 d _)
theorem words_r (k : Lane) (d : Dev nD) (i : Fin 32) : (oR (rOff k d i) (rOff_inb k d i)).WholeWords (EltTy.packing .bf16) := by
  cases k
  exacts [k0_off3_wordsbf16 d _, k0_off4_wordsbf16 d _, k0_off5_wordsbf16 d _, k0_off12_wordsbf16 d _]

/-- Own block `n` in the argument and in the result; an arriving block in the result. -/
abbrev xM (d : Dev nD) (n : Fin 128) : Memref sig .tc .hbm S128x1024 .f32 :=
  xA.slice (Rect.unit (s := S16384x1024) (xOff d n) S128x1024.size (xOff_inb d n)) (fun _ => rfl)
abbrev oM (d : Dev nD) (n : Fin 128) : Memref sig .tc .hbm S128x1024 .bf16 := oA.slice (oR (oOff d n) (oOff_inb d n)) (fun _ => rfl)
abbrev rM (k : Lane) (d : Dev nD) (i : Fin 32) : Memref sig .tc .hbm S128x1024 .bf16 := oA.slice (oR (rOff k d i) (rOff_inb k d i)) (fun _ => rfl)

/-! ## The semaphores -/

theorem inb_s8 (s : Fin 8) : ∀ a, (![s.val] : Fin 1 → Nat) a + S1.size a ≤ S8.size a := by revert s; decide
theorem inb_s16 (s : Fin 16) : ∀ a, (![s.val] : Fin 1 → Nat) a + S1.size a ≤ S16.size a := by revert s; decide
theorem inb_s32 (s : Fin 32) : ∀ a, (![s.val] : Fin 1 → Nat) a + S1.size a ≤ S32.size a := by revert s; decide
theorem inb_s128 (s : Fin 128) : ∀ a, (![s.val] : Fin 1 → Nat) a + S1.size a ≤ S128.size a := by revert s; decide

abbrev e8 (A : DmaSems sig S8) (s : Fin 8) : DmaSem sig :=
  ((A.slice (Rect.unit (s := S8) ![s.val] S1.size (inb_s8 s)) : DmaSems sig S1).squeeze S_ squeezes_S1_S_ : DmaSems sig S_).sem
abbrev e16 (A : DmaSems sig S16) (s : Fin 16) : DmaSem sig :=
  ((A.slice (Rect.unit (s := S16) ![s.val] S1.size (inb_s16 s)) : DmaSems sig S1).squeeze S_ squeezes_S1_S_ : DmaSems sig S_).sem
abbrev e32 (A : DmaSems sig S32) (s : Fin 32) : DmaSem sig :=
  ((A.slice (Rect.unit (s := S32) ![s.val] S1.size (inb_s32 s)) : DmaSems sig S1).squeeze S_ squeezes_S1_S_ : DmaSems sig S_).sem
abbrev e128 (A : DmaSems sig S128) (s : Fin 128) : DmaSem sig :=
  ((A.slice (Rect.unit (s := S128) ![s.val] S1.size (inb_s128 s)) : DmaSems sig S1).squeeze S_ squeezes_S1_S_ : DmaSems sig S_).sem

abbrev half (i : Fin 32) : Fin 16 := ⟨i.val / 2, by omega⟩

abbrev barS : Sem sig := (SemArray.scalar (sig.barrier 0 rfl) : Sems sig S_).sem
def ldS (s : Fin 8) : DmaSem sig := e8 cc0_scratch3 s
def stS (n : Fin 128) : DmaSem sig := e128 cc0_scratch4 n
/-- The semaphore a send on a lane raises at the sender, and the one it raises at the receiver. -/
def sdS (k : Lane) (i : Fin 32) : DmaSem sig :=
  match k with
  | .z => e32 cc0_scratch5 i | .x => e32 cc0_scratch7 i | .y => e32 cc0_scratch9 i
  | .g => if i.val % 2 = 0 then e16 cc0_scratch13 (half i) else e16 cc0_scratch11 (half i)
def rvS (k : Lane) (i : Fin 32) : DmaSem sig :=
  match k with
  | .z => e32 cc0_scratch6 i | .x => e32 cc0_scratch8 i | .y => e32 cc0_scratch10 i
  | .g => if i.val % 2 = 0 then e16 cc0_scratch14 (half i) else e16 cc0_scratch12 (half i)

/-! ## The program of a list of effects -/

/-- The neighbour across z (0), x (1), y (2). -/
def peer (p : Fin 3) (d : Dev nD) : Dev nD :=
  match p with
  | 0 => ⟨k0_dev1 d, k0_dev1_lt d⟩ | 1 => ⟨k0_dev2 d, k0_dev2_lt d⟩ | 2 => ⟨k0_dev3 d, k0_dev3_lt d⟩

/-- The values cast: the block's rounded contents, in the shape it is stored in. -/
def castV (v : Vec F S1x128x1024 .f32) : FVec F S1x128x1024 .bf16 :=
  shapeCast S1x128x1024 (truncf .bf16 (shapeCast S128x1024 v shapeCasts_S1x128x1024_S128x1024 : FVec F S128x1024 .f32)
    bitsLt_bf16_f32 : FVec F S128x1024 .bf16) shapeCasts_S128x1024_S1x128x1024

/-- One effect, then the rest. -/
def step (d : Dev nD) (o : Op) (k : Prog (TpuEff nD τ sig (Elt F) Λ₀ .tc) PUnit) : Prog (TpuEff nD τ sig (Elt F) Λ₀ .tc) PUnit :=
  match o with
  | .sig p => .op (.semSignal (peer p d).tc barS 1) fun _ => k
  | .bar => .op (.semWait barS 3) fun _ => k
  | .ld n => .op (.enqueueDma (xM d n) (.here (vxM (slot8 n))) (.dma (ldS (slot8 n))) (View.wordExact_bits rfl)
      ((View.wordExact_bits rfl).reshape _ _) ⟨Or.inl rfl, trivial⟩) fun _ => k
  | .ldw n => .op (.waitDma2 (ldS (slot8 n)) (xM d n) (vxM (slot8 n)) (View.wordExact_bits rfl)
      ((View.wordExact_bits rfl).reshape _ _)) fun _ => k
  | .cast n =>
    .op (.load vxA (vxR (slot8 n)).toLoadRect (View.loadsAt_vmem h_S1x128x1024)) fun v =>
      if n.val < 32 then
        .op (.load vcA (vcR (blk n)).toLoadRect (View.loadsAt_vmem h_S1x128x1024)) fun _ =>
          .op (.store vcA (vcR (blk n)) (castV v) Finset.univ (View.stores_vmem h_S1x128x1024
            ((Memref.isWhole_whole _).storeExact_slice rfl _ (packed_vc _)) (fun _ => rfl)) (.inl rfl)) fun _ => k
      else
        .op (.load vkA (vkR (slot2 n)).toLoadRect (View.loadsAt_vmem h_S1x128x1024)) fun _ =>
          .op (.store vkA (vkR (slot2 n)) (castV v) Finset.univ (View.stores_vmem h_S1x128x1024
            ((Memref.isWhole_whole _).storeExact_slice rfl _ (packed_vk _)) (fun _ => rfl)) (.inl rfl)) fun _ => k
  | .st n =>
    if n.val < 32 then
      .op (.enqueueDma (vcM (blk n)) (.here (oM d n)) (.dma (stS n)) (((Memref.isWhole_whole _).wordExact_slice rfl _ (words_vc _)).reshape _ _)
        ((Memref.isWhole_whole _).wordExact_slice rfl _ (words_o d n)) ⟨Or.inl rfl, trivial⟩) fun _ => k
    else
      .op (.enqueueDma (vkM (slot2 n)) (.here (oM d n)) (.dma (stS n)) (((Memref.isWhole_whole _).wordExact_slice rfl _ (words_vk _)).reshape _ _)
        ((Memref.isWhole_whole _).wordExact_slice rfl _ (words_o d n)) ⟨Or.inl rfl, trivial⟩) fun _ => k
  | .stw n =>
    if n.val < 32 then
      .op (.waitDma2 (stS n) (vcM (blk n)) (oM d n) (((Memref.isWhole_whole _).wordExact_slice rfl _ (words_vc _)).reshape _ _)
        ((Memref.isWhole_whole _).wordExact_slice rfl _ (words_o d n))) fun _ => k
    else
      .op (.waitDma2 (stS n) (vkM (slot2 n)) (oM d n) (((Memref.isWhole_whole _).wordExact_slice rfl _ (words_vk _)).reshape _ _)
        ((Memref.isWhole_whole _).wordExact_slice rfl _ (words_o d n))) fun _ => k
  | .snd .z i =>
    .op (.enqueueDma (vcM i) (.remote (peer 0 d).tc (oM d (f128 i.val)) (.dma (sdS .z i))) (.dma (rvS .z i))
      (((Memref.isWhole_whole _).wordExact_slice rfl _ (words_vc _)).reshape _ _)
      ((Memref.isWhole_whole _).wordExact_slice rfl _ (words_o d _)) ⟨⟨rfl, Or.inl rfl⟩, trivial⟩) fun _ => k
  | .snd l i =>
    .op (.enqueueDma (rM (laneFrom l i) d i) (.remote (peer (laneTo l i) d).tc (rM (laneFrom l i) d i) (.dma (sdS l i))) (.dma (rvS l i))
      ((Memref.isWhole_whole _).wordExact_slice rfl _ (words_r _ d i))
      ((Memref.isWhole_whole _).wordExact_slice rfl _ (words_r _ d i)) ⟨⟨rfl, Or.inl rfl⟩, trivial⟩) fun _ => k
  | .rcv .z i =>
    .op (.waitDma2 (rvS .z i) (vcM i) (oM d (f128 i.val)) (((Memref.isWhole_whole _).wordExact_slice rfl _ (words_vc _)).reshape _ _)
        ((Memref.isWhole_whole _).wordExact_slice rfl _ (words_o d _))) fun _ => k
  | .rcv l i =>
    .op (.waitDma2 (rvS l i) (rM l d i) (rM l d i) ((Memref.isWhole_whole _).wordExact_slice rfl _ (words_r l d i))
        ((Memref.isWhole_whole _).wordExact_slice rfl _ (words_r l d i))) fun _ => k
  | .snw .z i =>
    .op (.waitDma2 (sdS .z i) (oM d (f128 i.val)) (vcM i) ((Memref.isWhole_whole _).wordExact_slice rfl _ (words_o d _))
      (((Memref.isWhole_whole _).wordExact_slice rfl _ (words_vc _)).reshape _ _)) fun _ => k
  | .snw l i =>
    .op (.waitDma2 (sdS l i) (rM (laneFrom l i) d i) (rM (laneFrom l i) d i) ((Memref.isWhole_whole _).wordExact_slice rfl _ (words_r _ d i))
        ((Memref.isWhole_whole _).wordExact_slice rfl _ (words_r _ d i))) fun _ => k

/-- The effects of a list, in order. -/
def exec (d : Dev nD) : List Op → Prog (TpuEff nD τ sig (Elt F) Λ₀ .tc) PUnit
  | [] => .ret ⟨⟩
  | o :: os => step d o (exec d os)

/-- The body reads its device index, then runs the plan. -/
def bodyP : Prog (TpuEff nD τ sig (Elt F) Λ₀ .tc) PUnit := .op .deviceId fun d => exec d plan

end Cert.Kernel.Run

end
-- ==== Proof.K.Geom.lean ====
/-
  Where the blocks lie, in numbers; which blocks are the same memory under two names; the blocks partition their
  buffers; and what every block holds.
-/
module

public import proofs.«01_k».proof.Proof.K.Exec
public import Idealize.ShloMosaic.Lib.Ring
public import Idealize.ShloMosaic.Lib.ValueLayout

@[expose] public section

noncomputable section

namespace Cert.Kernel.Run

open Idealize.ShloMosaic Idealize.ShloMosaic.TcCoe Idealize.SL Idealize.SL.Sem Cert.Plan Cert.Kernel.Gen
open Idealize.ShloMosaic.ValueIdx

variable {F : FTy → Type} [FloatOps F]

/-! ## Offsets in numbers -/

/-- The quarter a lane stands for at a device: its own, its x neighbour's, its y neighbour's, the diagonal
    device's. -/
def qd (k : Lane) (d : Dev nD) : ℕ :=
  match k with
  | .z => d.val / 2
  | .x => (d.val / 2) % 2 + 2 - 2 * (d.val / 4)
  | .y => 2 * (d.val / 4) + 1 - (d.val / 2) % 2
  | .g => 3 - d.val / 2

theorem qd_lt (k : Lane) (d : Dev nD) : qd k d < 4 := by revert d; cases k <;> decide

/-- The lane of an own block's quarter. -/
def laneOf (n : Fin 128) : Lane := if n.val < 32 then .z else if n.val < 64 then .x else if n.val < 96 then .y else .g

/-- Block numbers: of own block `n` in the argument and in the result, of an arriving block in the result. -/
def xb (d : Dev nD) (n : Fin 128) : Fin 128 := ⟨32 * qd (laneOf n) d + n.val % 32, by have := qd_lt (laneOf n) d; omega⟩
def ob (d : Dev nD) (n : Fin 128) : Fin 256 :=
  ⟨128 * (d.val % 2) + (32 * qd (laneOf n) d + n.val % 32), by have := qd_lt (laneOf n) d; omega⟩
def rb (k : Lane) (d : Dev nD) (i : Fin 32) : Fin 256 :=
  ⟨128 * (1 - d.val % 2) + (32 * qd k d + i.val), by have := qd_lt k d; have := i.isLt; omega⟩

/-- Block `b` begins at row `128 b`. -/
abbrev off2 {N : ℕ} (b : Fin N) : Fin 2 → ℕ := ![128 * b.val, 0]

theorem laneOf_cases (n : Fin 128) :
    (n.val < 32 ∧ laneOf n = .z) ∨ (¬ n.val < 32 ∧ n.val < 64 ∧ laneOf n = .x)
      ∨ (¬ n.val < 32 ∧ ¬ n.val < 64 ∧ n.val < 96 ∧ laneOf n = .y) ∨ (¬ n.val < 32 ∧ ¬ n.val < 64 ∧ ¬ n.val < 96 ∧ laneOf n = .g) := by
  unfold laneOf; split_ifs <;> simp_all

theorem xOff_eq (d : Dev nD) (n : Fin 128) : xOff d n = off2 (xb d n) := by
  have hd : d.val < 8 := d.isLt
  show xOff d n = ![128 * (32 * qd (laneOf n) d + n.val % 32), 0]
  unfold xOff
  obtain ⟨h1, hl⟩ | ⟨h1, h2, hl⟩ | ⟨h1, h2, h3, hl⟩ | ⟨h1, h2, h3, hl⟩ := laneOf_cases n <;>
    simp only [h1, if_true, if_false, *] <;>
    simp only [k0_off1_eq, k0_off6_eq, k0_off8_eq, k0_off10_eq, qd] <;> congr 1 <;> omega

theorem oOff_eq (d : Dev nD) (n : Fin 128) : oOff d n = off2 (ob d n) := by
  have hd : d.val < 8 := d.isLt
  show oOff d n = ![128 * (128 * (d.val % 2) + (32 * qd (laneOf n) d + n.val % 32)), 0]
  unfold oOff
  obtain ⟨h1, hl⟩ | ⟨h1, h2, hl⟩ | ⟨h1, h2, h3, hl⟩ | ⟨h1, h2, h3, hl⟩ := laneOf_cases n <;>
    simp only [h1, if_true, if_false, *] <;>
    simp only [k0_off2_eq, k0_off7_eq, k0_off9_eq, k0_off11_eq, qd] <;> congr 1 <;> omega

theorem rOff_eq (k : Lane) (d : Dev nD) (i : Fin 32) : rOff k d i = off2 (rb k d i) := by
  have hd : d.val < 8 := d.isLt
  show rOff k d i = ![128 * (128 * (1 - d.val % 2) + (32 * qd k d + i.val)), 0]
  cases k <;> simp only [rOff, k0_off3_eq, k0_off4_eq, k0_off5_eq, k0_off12_eq, qd] <;> congr 1 <;> omega

/-! ## The neighbours -/

theorem peer_invol : ∀ (p : Fin 3) (d : Dev nD), peer p (peer p d) = d := by decide +kernel

theorem half_peer_z : ∀ d : Dev nD, (peer 0 d).val % 2 = 1 - d.val % 2 := by decide +kernel
theorem half_peer : ∀ (p : Fin 3) (d : Dev nD), p ≠ 0 → (peer p d).val % 2 = d.val % 2 := by decide +kernel
theorem qd_peer_z : ∀ d : Dev nD, qd .z (peer 0 d) = qd .z d := by decide +kernel
theorem qd_peer_x : ∀ d : Dev nD, qd .x (peer 1 d) = qd .z d ∧ qd .g (peer 1 d) = qd .y d := by decide +kernel
theorem qd_peer_y : ∀ d : Dev nD, qd .y (peer 2 d) = qd .z d ∧ qd .g (peer 2 d) = qd .x d := by decide +kernel

theorem f128_val (i : Fin 32) : (f128 i.val).val = i.val := Nat.mod_eq_of_lt (by have := i.isLt; omega)

theorem laneOf_f128 (i : Fin 32) : laneOf (f128 i.val) = .z := by
  unfold laneOf; rw [f128_val, if_pos i.isLt]

/-- Own block `i` of the first quarter is, at the device across z, the block that arrives from across z. -/
theorem ob_eq_rb (d : Dev nD) (i : Fin 32) : ob d (f128 i.val) = rb .z (peer 0 d) i := by
  have := half_peer_z d; have := qd_peer_z d; have := i.isLt
  apply Fin.ext; simp only [ob, rb, laneOf_f128, f128_val]; omega

theorem laneTo_ne (l : Lane) (i : Fin 32) (h : l ≠ .z) : laneTo l i ≠ 0 := by
  cases l <;> simp only [laneTo] <;> first | exact absurd rfl h | (try split_ifs) <;> decide

/-- A block forwarded is, at the device it goes to, the block that arrives there on that lane. -/
theorem rb_forward (l : Lane) (h : l ≠ .z) (d : Dev nD) (i : Fin 32) :
    rb (laneFrom l i) d i = rb l (peer (laneTo l i) d) i := by
  have h1 := half_peer _ d (laneTo_ne l i h)
  have h2 : qd (laneFrom l i) d = qd l (peer (laneTo l i) d) := by
    cases l
    · exact absurd rfl h
    · exact (qd_peer_x d).1.symm
    · exact (qd_peer_y d).1.symm
    · simp only [laneFrom, laneTo]; split_ifs
      · exact (qd_peer_y d).2.symm
      · exact (qd_peer_x d).2.symm
  apply Fin.ext; simp only [rb, h1, h2]

theorem oR_congr {o o' : Fin 2 → ℕ} (h : o = o') (p : ∀ a, o a + S128x1024.size a ≤ S32768x1024.size a)
    (p' : ∀ a, o' a + S128x1024.size a ≤ S32768x1024.size a) :
    oA.slice (oR o p) (fun _ => rfl) = oA.slice (oR o' p') (fun _ => rfl) := by subst h; rfl

theorem oM_eq_rM (d : Dev nD) (i : Fin 32) : oM d (f128 i.val) = rM .z (peer 0 d) i :=
  oR_congr (by rw [oOff_eq, rOff_eq, ob_eq_rb]) _ _
theorem rM_forward (l : Lane) (h : l ≠ .z) (d : Dev nD) (i : Fin 32) :
    rM (laneFrom l i) d i = rM l (peer (laneTo l i) d) i :=
  oR_congr (by rw [rOff_eq, rOff_eq, rb_forward l h]) _ _

/-! ## The blocks as sets of elements -/

/-- Block `b` of the result and of the argument; a slot of each of the three scratch buffers. -/
def oSet (b : Fin 256) : Finset S32768x1024.Idx := (Rect.unit (s := S32768x1024) (off2 b) S128x1024.size (by
  intro a; have := b.isLt; fin_cases a
  · show 128 * b.val + 128 ≤ 32768; omega
  · show (0 : ℕ) + 1024 ≤ 1024; decide)).set
def xSet (b : Fin 128) : Finset S16384x1024.Idx := (Rect.unit (s := S16384x1024) (off2 b) S128x1024.size (by
  intro a; have := b.isLt; fin_cases a
  · show 128 * b.val + 128 ≤ 16384; omega
  · show (0 : ℕ) + 1024 ≤ 1024; decide)).set
def vxSet (s : Fin 8) : Finset S8x128x1024.Idx := (vxR s).set
def vcSet (s : Fin 32) : Finset S32x128x1024.Idx := (vcR s).set
def vkSet (s : Fin 2) : Finset S2x128x1024.Idx := (vkR s).set

theorem rectSet_congr {s : Shape} {o o' size : Fin s.rank → ℕ} (h : o = o') (p : ∀ a, o a + size a ≤ s.size a)
    (p' : ∀ a, o' a + size a ≤ s.size a) : (Rect.unit (s := s) o size p).set = (Rect.unit (s := s) o' size p').set := by
  subst h; rfl

theorem oM_set (d : Dev nD) (n : Fin 128) : (oM d n).view.set = oSet (ob d n) :=
  (View.set_slice_whole _ _).trans (rectSet_congr (s := S32768x1024) (oOff_eq d n) _ _)
theorem rM_set (k : Lane) (d : Dev nD) (i : Fin 32) : (rM k d i).view.set = oSet (rb k d i) :=
  (View.set_slice_whole _ _).trans (rectSet_congr (s := S32768x1024) (rOff_eq k d i) _ _)
theorem xM_set (d : Dev nD) (n : Fin 128) : (xM d n).view.set = xSet (xb d n) :=
  (View.set_slice_whole _ _).trans (rectSet_congr (s := S16384x1024) (xOff_eq d n) _ _)
theorem vxM_set (s : Fin 8) : (vxM s).view.set = vxSet s := (View.set_reshape _ _).trans (View.set_slice_whole _ _)
theorem vcM_set (s : Fin 32) : (vcM s).view.set = vcSet s := (View.set_reshape _ _).trans (View.set_slice_whole _ _)
theorem vkM_set (s : Fin 2) : (vkM s).view.set = vkSet s := (View.set_reshape _ _).trans (View.set_slice_whole _ _)
theorem vxA_set (s : Fin 8) : (vxA.access (vxR s)).set = vxSet s := View.set_slice_whole _ _
theorem vcA_set (s : Fin 32) : (vcA.access (vcR s)).set = vcSet s := View.set_slice_whole _ _
theorem vkA_set (s : Fin 2) : (vkA.access (vkR s)).set = vkSet s := View.set_slice_whole _ _

theorem oSet_disj (b b' : Fin 256) (h : b ≠ b') : Disjoint (oSet b) (oSet b') :=
  Ring.lead_disjoint (s := S32768x1024) 0 128 (fun b => off2 b) S128x1024.size _ (fun _ => rfl) rfl b b' h
theorem xSet_disj (b b' : Fin 128) (h : b ≠ b') : Disjoint (xSet b) (xSet b') :=
  Ring.lead_disjoint (s := S16384x1024) 0 128 (fun b => off2 b) S128x1024.size _ (fun _ => rfl) rfl b b' h
theorem vxSet_disj (b b' : Fin 8) (h : b ≠ b') : Disjoint (vxSet b) (vxSet b') :=
  Ring.lead_disjoint (s := S8x128x1024) 0 1 (fun b => ![b.val, 0, 0]) S1x128x1024.size _ (fun b => (Nat.one_mul _).symm) rfl b b' h
theorem vcSet_disj (b b' : Fin 32) (h : b ≠ b') : Disjoint (vcSet b) (vcSet b') :=
  Ring.lead_disjoint (s := S32x128x1024) 0 1 (fun b => ![b.val, 0, 0]) S1x128x1024.size _ (fun b => (Nat.one_mul _).symm) rfl b b' h
theorem vkSet_disj (b b' : Fin 2) (h : b ≠ b') : Disjoint (vkSet b) (vkSet b') :=
  Ring.lead_disjoint (s := S2x128x1024) 0 1 (fun b => ![b.val, 0, 0]) S1x128x1024.size _ (fun b => (Nat.one_mul _).symm) rfl b b' h

theorem oSet_cover : Finset.univ.biUnion oSet = Finset.univ :=
  Ring.lead_cover (s := S32768x1024) 0 128 (fun b => off2 b) S128x1024.size _ (fun _ => rfl) (by decide +revert) rfl (by decide) rfl
theorem xSet_cover : Finset.univ.biUnion xSet = Finset.univ :=
  Ring.lead_cover (s := S16384x1024) 0 128 (fun b => off2 b) S128x1024.size _ (fun _ => rfl) (by decide +revert) rfl (by decide) rfl
theorem vxSet_cover : Finset.univ.biUnion vxSet = Finset.univ :=
  Ring.lead_cover (s := S8x128x1024) 0 1 (fun b => ![b.val, 0, 0]) S1x128x1024.size _ (fun b => (Nat.one_mul _).symm) (by decide) rfl (by decide) rfl
theorem vcSet_cover : Finset.univ.biUnion vcSet = Finset.univ :=
  Ring.lead_cover (s := S32x128x1024) 0 1 (fun b => ![b.val, 0, 0]) S1x128x1024.size _ (fun b => (Nat.one_mul _).symm) (by decide) rfl (by decide) rfl
theorem vkSet_cover : Finset.univ.biUnion vkSet = Finset.univ :=
  Ring.lead_cover (s := S2x128x1024) 0 1 (fun b => ![b.val, 0, 0]) S1x128x1024.size _ (fun b => (Nat.one_mul _).symm) (by decide) rfl (by decide) rfl

/-! ## Which block is which -/

theorem lane_ext : ∀ (h h' : Fin 2) (k k' : Lane) (d : Dev nD), 128 * h.val + 32 * qd k d = 128 * h'.val + 32 * qd k' d →
    h = h' ∧ k = k' := by
  intro h h' k k' d; revert h h' d; cases k <;> cases k' <;> decide +kernel

/-- The own block of a lane's quarter, by its place in it. -/
def blkOf (k : Lane) (i : Fin 32) : Fin 128 :=
  match k with
  | .z => ⟨i.val, by omega⟩ | .x => ⟨32 + i.val, by omega⟩ | .y => ⟨64 + i.val, by omega⟩ | .g => ⟨96 + i.val, by omega⟩

theorem laneOf_inj (n n' : Fin 128) (h : laneOf n = laneOf n') (hm : n.val % 32 = n'.val % 32) : n = n' := by
  unfold laneOf at h
  have := n.isLt; have := n'.isLt
  apply Fin.ext
  split_ifs at h <;> omega

theorem xb_inj (d : Dev nD) : Function.Injective (xb d) := by
  intro n n' h
  have h := congrArg Fin.val h
  simp only [xb] at h
  have := lane_ext 0 0 (laneOf n) (laneOf n') d (by simp only [Fin.val_zero]; omega)
  refine laneOf_inj n n' this.2 ?_
  rw [this.2] at h; omega

/-- The result's blocks: the own ones and those that arrive. -/
def blockNo (d : Dev nD) : Fin 128 ⊕ (Lane × Fin 32) → Fin 256 := Sum.elim (ob d) fun p => rb p.1 d p.2

theorem blockNo_inj (d : Dev nD) : Function.Injective (blockNo d) := by
  have hz : d.val % 2 < 2 := Nat.mod_lt _ (by decide)
  have hz' : 1 - d.val % 2 < 2 := by omega
  rintro (n | ⟨k, i⟩) (n' | ⟨k', i'⟩) h <;> have h := congrArg Fin.val h <;> simp only [blockNo, Sum.elim_inl, Sum.elim_inr, ob, rb] at h
  · have := lane_ext ⟨_, hz⟩ ⟨_, hz⟩ (laneOf n) (laneOf n') d (by simp only; omega)
    rw [this.2] at h
    exact congrArg _ (laneOf_inj n n' this.2 (by omega))
  · have := i'.isLt
    have := (lane_ext ⟨_, hz⟩ ⟨_, hz'⟩ (laneOf n) k' d (by simp only; omega)).1
    have := congrArg Fin.val this; simp only at this; omega
  · have := i.isLt
    have := (lane_ext ⟨_, hz'⟩ ⟨_, hz⟩ k (laneOf n') d (by simp only; omega)).1
    have := congrArg Fin.val this; simp only at this; omega
  · have := i.isLt; have := i'.isLt
    have := (lane_ext ⟨_, hz'⟩ ⟨_, hz'⟩ k k' d (by simp only; omega)).2
    subst this
    have : i = i' := Fin.ext (by omega)
    subst this; rfl

end Cert.Kernel.Run

end
-- ==== Proof.K.Content.lean ====
/-
  What every buffer holds, as a function of the argument at launch, and what each view of it reads: a transfer or a
  cast writes exactly what the destination's contents say.
-/
module

public import proofs.«01_k».proof.Proof.K.Geom

@[expose] public section

noncomputable section

namespace Cert.Kernel.Run

open Idealize.ShloMosaic Idealize.ShloMosaic.TcCoe Idealize.SL Idealize.SL.Sem Cert.Plan Cert.Kernel.Gen
open Idealize.ShloMosaic.ValueIdx

variable {F : FTy → Type} [FloatOps F]

/-! ## Indices by block, row and column -/

def oIdx (b : Fin 256) (r : Fin 128) (k : Fin 1024) : S32768x1024.Idx := ix2 ⟨128 * b.val + r.val, by omega⟩ k
def xIdx (b : Fin 128) (r : Fin 128) (k : Fin 1024) : S16384x1024.Idx := ix2 ⟨128 * b.val + r.val, by omega⟩ k

section Read
variable {Val : EltTy → Type}

theorem read_o {o : Fin 2 → ℕ} (b : Fin 256) (h : o = off2 b) (p : ∀ a, o a + S128x1024.size a ≤ S32768x1024.size a)
    (g : S32768x1024.Idx → Val .bf16) (j : S128x1024.Idx) :
    (oA.slice (oR o p) (fun _ => rfl)).view.read Val g j = g (oIdx b (j 0) (j 1)) := by
  subst h
  show g _ = g _
  congr 1
  funext a
  apply Fin.ext
  fin_cases a
  · show 128 * b.val + 1 * (j 0).val = 128 * b.val + (j 0).val; omega
  · show 0 + 1 * (j 1).val = (j 1).val; omega

theorem read_x {o : Fin 2 → ℕ} (b : Fin 128) (h : o = off2 b) (p : ∀ a, o a + S128x1024.size a ≤ S16384x1024.size a)
    (g : S16384x1024.Idx → Val .f32) (j : S128x1024.Idx) :
    (xA.slice (Rect.unit (s := S16384x1024) o S128x1024.size p) (fun _ => rfl)).view.read Val g j = g (xIdx b (j 0) (j 1)) := by
  subst h
  show g _ = g _
  congr 1
  funext a
  apply Fin.ext
  fin_cases a
  · show 128 * b.val + 1 * (j 0).val = 128 * b.val + (j 0).val; omega
  · show 0 + 1 * (j 1).val = (j 1).val; omega

/-- Slot `s` read at a row and column. -/
theorem at_vx (s : Fin 8) (g : S8x128x1024.Idx → Val .f32) (j : S1x128x1024.Idx) :
    (vxA.access (vxR s)).read Val g j = g (ix3 s (j 1) (j 2)) := by
  show g _ = g _
  congr 1
  funext a
  apply Fin.ext
  have h0 : (j 0).val = 0 := by have := (j 0).isLt; simp at this; omega
  fin_cases a
  · show s.val + 1 * (j 0).val = s.val; omega
  · show 0 + 1 * (j 1).val = (j 1).val; omega
  · show 0 + 1 * (j 2).val = (j 2).val; omega
theorem at_vc (s : Fin 32) (g : S32x128x1024.Idx → Val .bf16) (j : S1x128x1024.Idx) :
    (vcA.access (vcR s)).read Val g j = g (ix3 s (j 1) (j 2)) := by
  show g _ = g _
  congr 1
  funext a
  apply Fin.ext
  have h0 : (j 0).val = 0 := by have := (j 0).isLt; simp at this; omega
  fin_cases a
  · show s.val + 1 * (j 0).val = s.val; omega
  · show 0 + 1 * (j 1).val = (j 1).val; omega
  · show 0 + 1 * (j 2).val = (j 2).val; omega
theorem at_vk (s : Fin 2) (g : S2x128x1024.Idx → Val .bf16) (j : S1x128x1024.Idx) :
    (vkA.access (vkR s)).read Val g j = g (ix3 s (j 1) (j 2)) := by
  show g _ = g _
  congr 1
  funext a
  apply Fin.ext
  have h0 : (j 0).val = 0 := by have := (j 0).isLt; simp at this; omega
  fin_cases a
  · show s.val + 1 * (j 0).val = s.val; omega
  · show 0 + 1 * (j 1).val = (j 1).val; omega
  · show 0 + 1 * (j 2).val = (j 2).val; omega

/-- The slot as a matrix of 128 rows: the same elements with the slot's axis dropped. -/
theorem cast_row {α : Type} (v : S1x128x1024.Idx → α) (h : S1x128x1024.ShapeCasts S128x1024) (j : S128x1024.Idx) :
    shapeCast S128x1024 v h j = v (ix3 (0 : Fin 1) (j 0) (j 1)) := by
  refine Eq.trans ?_ (shapeCast_1ab_ab_apply v h (j 0) (j 1))
  exact congrArg _ (eq_ix2 j)

theorem read_vx (s : Fin 8) (g : S8x128x1024.Idx → Val .f32) (j : S128x1024.Idx) :
    (vxM s).view.read Val g j = g (ix3 s (j 0) (j 1)) :=
  (congrFun (Memref.read_squeeze_slice vxA (vxR s) (fun _ => rfl) squeezes_S1x128x1024_S128x1024 shapeCasts_S1x128x1024_S128x1024 g) j).trans
    ((cast_row _ _ j).trans (at_vx s g _))
theorem read_vc (s : Fin 32) (g : S32x128x1024.Idx → Val .bf16) (j : S128x1024.Idx) :
    (vcM s).view.read Val g j = g (ix3 s (j 0) (j 1)) :=
  (congrFun (Memref.read_squeeze_slice vcA (vcR s) (fun _ => rfl) squeezes_S1x128x1024_S128x1024 shapeCasts_S1x128x1024_S128x1024 g) j).trans
    ((cast_row _ _ j).trans (at_vc s g _))
theorem read_vk (s : Fin 2) (g : S2x128x1024.Idx → Val .bf16) (j : S128x1024.Idx) :
    (vkM s).view.read Val g j = g (ix3 s (j 0) (j 1)) :=
  (congrFun (Memref.read_squeeze_slice vkA (vkR s) (fun _ => rfl) squeezes_S1x128x1024_S128x1024 shapeCasts_S1x128x1024_S128x1024 g) j).trans
    ((cast_row _ _ j).trans (at_vk s g _))

end Read

/-! ## Contents -/

variable (m : (ℓ : Loc nD τ sig) → Buf (Elt F) ℓ)

/-- The rounding to the result's format. -/
def tr (a : F .f32) : F .bf16 := FloatOps.truncf .bf16 bitsLt_bf16_f32 a

/-- The argument on a device. -/
def xVal (c : Dev nD) : S16384x1024.Idx → F .f32 := m ((c : Thread nD τ).loc main_arg0)
/-- A load slot holding own block `n`. -/
def vxVal (c : Dev nD) (n : Fin 128) : S8x128x1024.Idx → F .f32 := fun j => xVal m c (xIdx (xb c n) (j 1) (j 2))
/-- The rounded blocks of the first quarter, slot by slot; a store slot holding own block `n` rounded. -/
def vcVal (c : Dev nD) : S32x128x1024.Idx → F .bf16 :=
  fun j => tr (xVal m c (xIdx (xb c (f128 (j 0).val)) (j 1) (j 2)))
def vkVal (c : Dev nD) (n : Fin 128) : S2x128x1024.Idx → F .bf16 := fun j => tr (xVal m c (xIdx (xb c n) (j 1) (j 2)))

/-- The device whose argument a row of the result comes from, on device `c`: `c` itself for its own half; else
    the device that lies in the other half and sends the row's quarter. -/
def srcDev (c : Dev nD) (r : Fin 32768) : Dev nD :=
  if r.val / 16384 = c.val % 2 then c
  else ⟨2 * ((r.val % 16384) / 4096) + r.val / 16384, by show _ < 8; omega⟩
/-- The result on a device. -/
def outVal (c : Dev nD) : S32768x1024.Idx → F .bf16 :=
  fun i => tr (xVal m (srcDev c (i 0)) (ix2 ⟨(i 0).val % 16384, Nat.mod_lt _ (by decide)⟩ (i 1)))

theorem castV_apply (v : S1x128x1024.Idx → F .f32) (j : S1x128x1024.Idx) : castV v j = tr (v (ix3 (0 : Fin 1) (j 1) (j 2))) := by
  have hj : j = ix3 (0 : Fin 1) (j 1) (j 2) := by
    funext a; apply Fin.ext
    have h0 : (j 0).val = 0 := by have := (j 0).isLt; simp at this; omega
    fin_cases a
    · exact h0
    · rfl
    · rfl
  unfold castV
  refine (congrArg _ hj).trans ((shapeCast_ab_1ab_apply _ _ (0 : Fin 1) (j 1) (j 2)).trans ?_)
  exact congrArg tr (cast_row v shapeCasts_S1x128x1024_S128x1024 _)

/-! ## What is written is what the contents say -/

theorem load_eq (c : Dev nD) (n : Fin 128) (s : Fin 8) :
    (vxM s).view.read (Elt F) (vxVal m c n) = (xM c n).view.read (Elt F) (xVal m c) := by
  funext j
  exact (read_vx (Val := Elt F) s _ j).trans (read_x (Val := Elt F) (xb c n) (xOff_eq c n) _ (xVal m c) j).symm

theorem cast_vc_eq (c : Dev nD) (n : Fin 128) (hn : n.val < 32) (s : Fin 8) :
    (vcA.access (vcR (blk n))).read (Elt F) (vcVal m c) = castV ((vxA.access (vxR s)).read (Elt F) (vxVal m c n)) := by
  funext j
  have hb : f128 (blk n).val = n := Fin.ext (by show n.val % 32 % 128 = n.val; omega)
  refine (at_vc (Val := Elt F) (blk n) _ j).trans (Eq.trans ?_ (castV_apply _ j).symm)
  refine Eq.trans ?_ (congrArg tr (at_vx (Val := Elt F) s (vxVal m c n) _).symm)
  show tr (xVal m c (xIdx (xb c (f128 (blk n).val)) (j 1) (j 2))) = _
  rw [hb]; rfl
theorem cast_vk_eq (c : Dev nD) (n : Fin 128) (s' : Fin 2) (s : Fin 8) :
    (vkA.access (vkR s')).read (Elt F) (vkVal m c n) = castV ((vxA.access (vxR s)).read (Elt F) (vxVal m c n)) := by
  funext j
  exact (at_vk (Val := Elt F) s' _ j).trans (Eq.trans (congrArg tr (at_vx (Val := Elt F) s (vxVal m c n) (ix3 (0 : Fin 1) (j 1) (j 2))).symm) (castV_apply _ j).symm)

/-- The own block `n` of the result is the argument's own block `n`, rounded. -/
theorem outVal_own (c : Dev nD) (n : Fin 128) (r : Fin 128) (k : Fin 1024) :
    outVal m c (oIdx (ob c n) r k) = tr (xVal m c (xIdx (xb c n) r k)) := by
  have hx := (xb c n).isLt
  have hb : (ob c n).val = 128 * (c.val % 2) + (xb c n).val := rfl
  have hs : srcDev c (oIdx (ob c n) r k 0) = c :=
    if_pos (by show (128 * (ob c n).val + r.val) / 16384 = c.val % 2; omega)
  unfold outVal
  rw [hs]
  refine congrArg (fun i => tr (xVal m c i)) ?_
  exact congrArg (fun i => ix2 i k) (Fin.ext (by show (128 * (ob c n).val + r.val) % 16384 = 128 * (xb c n).val + r.val; omega))

theorem store_vc_eq (c : Dev nD) (n : Fin 128) (hn : n.val < 32) :
    (oM c n).view.read (Elt F) (outVal m c) = (vcM (blk n)).view.read (Elt F) (vcVal m c) := by
  funext j
  have hb : f128 (blk n).val = n := Fin.ext (by show n.val % 32 % 128 = n.val; omega)
  refine (read_o (Val := Elt F) (ob c n) (oOff_eq c n) _ (outVal m c) j).trans ((outVal_own m c n _ _).trans (Eq.trans ?_ (read_vc (Val := Elt F) (blk n) _ j).symm))
  show _ = tr (xVal m c (xIdx (xb c (f128 (blk n).val)) (j 0) (j 1)))
  rw [hb]
theorem store_vk_eq (c : Dev nD) (n : Fin 128) (s : Fin 2) :
    (oM c n).view.read (Elt F) (outVal m c) = (vkM s).view.read (Elt F) (vkVal m c n) := by
  funext j
  exact (read_o (Val := Elt F) (ob c n) (oOff_eq c n) _ (outVal m c) j).trans ((outVal_own m c n _ _).trans (read_vk (Val := Elt F) s (vkVal m c n) j).symm)

/-- An arriving block's rows come from a device found from the row alone. -/
theorem srcDev_arr (k : Lane) (c : Dev nD) (i : Fin 32) (r : Fin 128) (j : Fin 1024) :
    (srcDev c (oIdx (rb k c i) r j 0)).val = 2 * qd k c + (1 - c.val % 2) := by
  have hq := qd_lt k c
  have hb : (rb k c i).val = 128 * (1 - c.val % 2) + (32 * qd k c + i.val) := rfl
  have hv : (oIdx (rb k c i) r j 0).val = 128 * (rb k c i).val + r.val := rfl
  have hi := i.isLt
  unfold srcDev
  rw [if_neg (by rw [hv]; omega)]
  show 2 * (((oIdx (rb k c i) r j 0).val % 16384) / 4096) + (oIdx (rb k c i) r j 0).val / 16384 = _
  rw [hv]; omega

/-- What is sent across z: the block rounded, which is the receiver's contents there. -/
theorem send_z_eq (c : Dev nD) (i : Fin 32) :
    (rM .z (peer 0 c) i).view.read (Elt F) (outVal m (peer 0 c)) = (vcM i).view.read (Elt F) (vcVal m c) := by
  funext j
  refine (read_o (Val := Elt F) (rb .z (peer 0 c) i) (rOff_eq .z _ i) _ (outVal m (peer 0 c)) j).trans (Eq.trans ?_ (read_vc (Val := Elt F) i _ j).symm)
  have hs : srcDev (peer 0 c) (oIdx (rb .z (peer 0 c) i) (j 0) (j 1) 0) = c := Fin.ext (by
    refine (srcDev_arr .z (peer 0 c) i (j 0) (j 1)).trans ?_
    rw [qd_peer_z, half_peer_z]; show 2 * (c.val / 2) + _ = _; omega)
  have hb : (rb .z (peer 0 c) i).val = 128 * (c.val % 2) + (xb c (f128 i.val)).val := by
    rw [← ob_eq_rb]; rfl
  have hx := (xb c (f128 i.val)).isLt
  unfold outVal
  rw [hs]
  refine congrArg (fun i => tr (xVal m c i)) ?_
  exact congrArg (fun i => ix2 i (j 1)) (Fin.ext (by
    show (128 * (rb .z (peer 0 c) i).val + (j 0).val) % 16384 = 128 * (xb c (f128 i.val)).val + (j 0).val
    have : (j 0).val < 128 := (j 0).isLt
    rw [hb]; omega))

/-- What is forwarded: the sender's contents there, which are the receiver's. -/
theorem send_fwd_eq (l : Lane) (h : l ≠ .z) (c : Dev nD) (i : Fin 32) :
    (rM l (peer (laneTo l i) c) i).view.read (Elt F) (outVal m (peer (laneTo l i) c))
      = (rM (laneFrom l i) c i).view.read (Elt F) (outVal m c) := by
  funext j
  refine (read_o (Val := Elt F) _ (rOff_eq l _ i) _ (outVal m (peer (laneTo l i) c)) j).trans
    (Eq.trans ?_ (read_o (Val := Elt F) _ (rOff_eq (laneFrom l i) c i) _ (outVal m c) j).symm)
  rw [← rb_forward l h c i]
  have hp := half_peer _ c (laneTo_ne l i h)
  have hs : srcDev (peer (laneTo l i) c) (oIdx (rb (laneFrom l i) c i) (j 0) (j 1) 0)
      = srcDev c (oIdx (rb (laneFrom l i) c i) (j 0) (j 1) 0) := Fin.ext (by
    refine Eq.trans ?_ (srcDev_arr (laneFrom l i) c i (j 0) (j 1)).symm
    rw [rb_forward l h c i]
    refine (srcDev_arr l (peer (laneTo l i) c) i (j 0) (j 1)).trans ?_
    rw [hp]
    have hb := congrArg Fin.val (rb_forward l h c i)
    simp only [rb, hp] at hb
    omega)
  unfold outVal
  rw [hs]

end Cert.Kernel.Run

end
-- ==== Proof.K.Sched.lean ====
/-
  The semaphores as cells, and what every cell is raised by: its rounds, the amounts, and what the units hand to the
  device that waits.
-/
module

public import proofs.«01_k».proof.Proof.Sep
public import proofs.«01_k».proof.Proof.K.Content
public import Idealize.ShloMosaic.Lib.Pipeline.Launch
public import Idealize.ShloMosaic.Lib.Pipeline.Kit
public import Idealize.ShloMosaic.Lib.Tactic

@[expose] public section

noncomputable section

namespace Cert.Kernel.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.Plan Cert.Kernel.Gen

variable {F : FTy → Type} [FloatOps F]

/-! ## The resources' algebra: the pipeline's copy and the rounds', whose duties are named by a neighbour -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The transfers' semaphores: of the loads by slot, of the stores, of the sends, of the arrivals. -/
abbrev DCell : Type := Fin 8 ⊕ Fin 128 ⊕ (Lane × Fin 32) ⊕ (Lane × Fin 32)
/-- All of a device's: the barrier's, the transfers'. -/
abbrev Cell : Type := Unit ⊕ DCell

instance : DecidableEq DCell := inferInstance
instance : DecidableEq Cell := instDecidableEqSum

abbrev cBar : Cell := .inl ()
abbrev cLd (s : Fin 8) : Cell := .inr (.inl s)
abbrev cSt (n : Fin 128) : Cell := .inr (.inr (.inl n))
abbrev cSd (k : Lane) (i : Fin 32) : Cell := .inr (.inr (.inr (.inl (k, i))))
abbrev cRv (k : Lane) (i : Fin 32) : Cell := .inr (.inr (.inr (.inr (k, i))))

def dsem : DCell → DmaSem sig
  | .inl s => ldS s
  | .inr (.inl n) => stS n
  | .inr (.inr (.inl (k, i))) => sdS k i
  | .inr (.inr (.inr (k, i))) => rvS k i

/-- The number of a transfer's semaphore. -/
def dnum : DCell → ℕ
  | .inl s => s.val
  | .inr (.inl n) => 8 + n.val
  | .inr (.inr (.inl (.z, i))) => 136 + i.val
  | .inr (.inr (.inl (.x, i))) => 200 + i.val
  | .inr (.inr (.inl (.y, i))) => 264 + i.val
  | .inr (.inr (.inl (.g, i))) => if i.val % 2 = 0 then 360 + i.val / 2 else 328 + i.val / 2
  | .inr (.inr (.inr (.z, i))) => 168 + i.val
  | .inr (.inr (.inr (.x, i))) => 232 + i.val
  | .inr (.inr (.inr (.y, i))) => 296 + i.val
  | .inr (.inr (.inr (.g, i))) => if i.val % 2 = 0 then 376 + i.val / 2 else 344 + i.val / 2

/-- The cell of a number. -/
def dcell (q : ℕ) : DCell :=
  if q < 8 then .inl ⟨q % 8, Nat.mod_lt _ (by decide)⟩
  else if q < 136 then .inr (.inl (f128 (q - 8)))
  else if q < 168 then .inr (.inr (.inl (.z, f32 (q - 136))))
  else if q < 200 then .inr (.inr (.inr (.z, f32 (q - 168))))
  else if q < 232 then .inr (.inr (.inl (.x, f32 (q - 200))))
  else if q < 264 then .inr (.inr (.inr (.x, f32 (q - 232))))
  else if q < 296 then .inr (.inr (.inl (.y, f32 (q - 264))))
  else if q < 328 then .inr (.inr (.inr (.y, f32 (q - 296))))
  else if q < 344 then .inr (.inr (.inl (.g, f32 (2 * (q - 328) + 1))))
  else if q < 360 then .inr (.inr (.inr (.g, f32 (2 * (q - 344) + 1))))
  else if q < 376 then .inr (.inr (.inl (.g, f32 (2 * (q - 360)))))
  else .inr (.inr (.inr (.g, f32 (2 * (q - 376)))))

theorem dcell_dnum (d : DCell) : dcell (dnum d) = d := by
  rcases d with s | n | ⟨k, i⟩ | ⟨k, i⟩
  · revert s; decide +kernel
  · revert n; decide +kernel
  · revert i; cases k <;> decide +kernel
  · revert i; cases k <;> decide +kernel

theorem dsem_val (d : DCell) : (dsem d).val = dnum d := by
  rcases d with s | n | ⟨k, i⟩ | ⟨k, i⟩
  · revert s; decide +kernel
  · revert n; decide +kernel
  · revert i; cases k <;> decide +kernel
  · revert i; cases k <;> decide +kernel

theorem dsem_inj : Function.Injective dsem := fun d d' h => by
  rw [← dcell_dnum d, ← dcell_dnum d', ← dsem_val, ← dsem_val, h]

/-- The semaphore of a cell. -/
def semOf : Cell → SemLoc sig
  | .inl _ => .reg barS
  | .inr d => .dma (dsem d)

/-- The cell of a semaphore. -/
def cellAt : SemLoc sig → Cell
  | .reg _ => cBar
  | .dma q => .inr (dcell q.val)

theorem cellAt_semOf (κ : Cell) : cellAt (semOf κ) = κ := by
  rcases κ with ⟨⟩ | d
  · rfl
  · show Sum.inr (dcell (dsem d).val) = _; rw [dsem_val, dcell_dnum]

theorem semOf_inj : Function.Injective semOf := fun κ κ' h => by rw [← cellAt_semOf κ, ← cellAt_semOf κ', h]

/-- A device's cell. -/
abbrev cel (c : Dev nD) (κ : Cell) : GSem nD τ sig := ((c : Thread nD τ), semOf κ)

theorem cel_inj {c c' : Dev nD} {κ κ' : Cell} (h : cel c κ = cel c' κ') : c = c' ∧ κ = κ' :=
  ⟨congrArg (fun g : GSem nD τ sig => g.1.1) h, semOf_inj (congrArg Prod.snd h)⟩

/-! ## The amounts -/

/-- What a block's transfer raises its semaphore by: a load's, any other's. -/
def NL : ℕ := (vxM 0).view.dmaCredit
def NB : ℕ := (oM 0 0).view.dmaCredit
theorem NL_pos : 0 < NL := View.dmaCredit_pos _ (by decide)
theorem NB_pos : 0 < NB := View.dmaCredit_pos _ (by decide)
theorem credit_vx (s : Fin 8) : (vxM s).view.dmaCredit = NL := rfl
theorem credit_o (d : Dev nD) (n : Fin 128) : (oM d n).view.dmaCredit = NB := rfl
theorem credit_r (k : Lane) (d : Dev nD) (i : Fin 32) : (rM k d i).view.dmaCredit = NB := rfl
theorem credit_vc (i : Fin 32) : (vcM i).view.dmaCredit = NB := rfl

def amt : Cell → ℕ
  | .inl _ => 1
  | .inr (.inl _) => NL
  | .inr (.inr _) => NB
theorem amt_pos (κ : Cell) : 0 < amt κ := by
  rcases κ with ⟨⟩ | s | κ
  exacts [Nat.one_pos, NL_pos, NB_pos]

/-! ## Pieces of memory -/

/-- A block of the argument; a block of the result; a slot of each scratch buffer. -/
def xP (c : Dev nD) (b : Fin 128) : sProp 𝕄 := ((c : Thread nD τ).loc main_arg0) ↦[xSet b]{fullShare} xVal m c
def oP (c : Dev nD) (b : Fin 256) (q : PosShare TreeShare) (f : Buf (Elt F) ((c : Thread nD τ).loc main_v1)) : sProp 𝕄 :=
  ((c : Thread nD τ).loc main_v1) ↦[oSet b]{q} f
def vxP (c : Dev nD) (s : Fin 8) (f : Buf (Elt F) ((c : Thread nD τ).loc cc0_scratch0)) : sProp 𝕄 :=
  ((c : Thread nD τ).loc cc0_scratch0) ↦[vxSet s]{fullShare} f
def vcP (c : Dev nD) (s : Fin 32) (q : PosShare TreeShare) (f : Buf (Elt F) ((c : Thread nD τ).loc cc0_scratch1)) : sProp 𝕄 :=
  ((c : Thread nD τ).loc cc0_scratch1) ↦[vcSet s]{q} f
def vkP (c : Dev nD) (s : Fin 2) (f : Buf (Elt F) ((c : Thread nD τ).loc cc0_scratch2)) : sProp 𝕄 :=
  ((c : Thread nD τ).loc cc0_scratch2) ↦[vkSet s]{fullShare} f

/-- A block of the result with its final contents. -/
abbrev oV (c : Dev nD) (b : Fin 256) (q : PosShare TreeShare) : sProp 𝕄 := oP c b q (outVal m c)

section Storable
variable (c : Dev nD)
instance xP_st (b : Fin 128) : BI.Storable (upEmb : UEmb _ 𝕄) (xP (F := F) m c b) := by unfold xP; infer_instance
instance oP_st (b : Fin 256) (q) (f) : BI.Storable (upEmb : UEmb _ 𝕄) (oP (F := F) c b q f) := by unfold oP; infer_instance
instance vxP_st (s : Fin 8) (f) : BI.Storable (upEmb : UEmb _ 𝕄) (vxP (F := F) c s f) := by unfold vxP; infer_instance
instance vcP_st (s : Fin 32) (q) (f) : BI.Storable (upEmb : UEmb _ 𝕄) (vcP (F := F) c s q f) := by unfold vcP; infer_instance
instance vkP_st (s : Fin 2) (f) : BI.Storable (upEmb : UEmb _ 𝕄) (vkP (F := F) c s f) := by unfold vkP; infer_instance
end Storable

instance sepL_st {α : Type} (l : List α) (f : α → sProp 𝕄) [h : ∀ a, BI.Storable (upEmb : UEmb _ 𝕄) (f a)] :
    BI.Storable (upEmb : UEmb _ 𝕄) (sepL l f) := by
  induction l with
  | nil => show BI.Storable (upEmb : UEmb _ 𝕄) (iprop(emp)); infer_instance
  | cons a l ih => show BI.Storable (upEmb : UEmb _ 𝕄) iprop(f a ∗ sepL l f); infer_instance

/-! ## The payloads -/

/-- The blocks of a device's result that the neighbour `p` may write, lent to it. -/
def lend (c : Dev nD) (p : Fin 3) : sProp 𝕄 :=
  sepL (lanes.filter fun a => laneTo a.1 a.2 = p) fun a => iprop(∃ f, oP c (rb a.1 c a.2) fullShare f)

/-- A store's slot, held by the store. -/
def stSlot (c : Dev nD) (n : Fin 128) : sProp 𝕄 :=
  if n.val < 32 then vcP c (blk n) fullShare.right (vcVal m c) else vkP c (slot2 n) (vkVal m c n)

/-- What a send reads, held by the send. -/
def sdSrc (c : Dev nD) (k : Lane) (i : Fin 32) : sProp 𝕄 :=
  match k with
  | .z => vcP c i fullShare.left (vcVal m c)
  | .x => oV m c (rb .z c i) fullShare.left
  | .y => oV m c (rb .z c i) fullShare.right
  | .g => oV m c (rb (laneFrom .g i) c i) fullShare

/-- The block loaded in round `r` into slot `s`. -/
def ldBlk (s : Fin 8) (r : ℕ) : Fin 128 := f128 (8 * r + s.val)

def pay (c : Dev nD) (κ : Cell) (r : ℕ) (p : Fin 3) : sProp 𝕄 :=
  match κ with
  | .inl _ => lend (peer p c) p
  | .inr (.inl s) => iprop(vxP c s (vxVal m c (ldBlk s r)) ∗ xP m c (xb c (ldBlk s r)))
  | .inr (.inr (.inl n)) => iprop(oV m c (ob c n) fullShare ∗ stSlot m c n)
  | .inr (.inr (.inr (.inl (k, i)))) => sdSrc m c k i
  | .inr (.inr (.inr (.inr (k, i)))) => oV m c (rb k c i) fullShare

instance lend_st (c : Dev nD) (p : Fin 3) : BI.Storable (upEmb : UEmb _ 𝕄) (lend (F := F) c p) := by unfold lend; infer_instance
instance stSlot_st (c : Dev nD) (n : Fin 128) : BI.Storable (upEmb : UEmb _ 𝕄) (stSlot (F := F) m c n) := by
  unfold stSlot; split <;> infer_instance
instance sdSrc_st (c : Dev nD) (k : Lane) (i : Fin 32) : BI.Storable (upEmb : UEmb _ 𝕄) (sdSrc (F := F) m c k i) := by
  unfold sdSrc; cases k <;> infer_instance
instance pay_st (c : Dev nD) (κ : Cell) (r : ℕ) (p : Fin 3) : BI.Storable (upEmb : UEmb _ 𝕄) (pay (F := F) m c κ r p) := by
  rcases κ with ⟨⟩ | s | n | ⟨k, i⟩ | ⟨k, i⟩ <;> unfold pay <;> infer_instance

/-! ## The schedule -/

/-- The duties of a cell's round: a load's semaphore has sixteen rounds of one, the barrier's one round with one for
    each neighbour, any other's one round of one. -/
def dut (κ : Cell) (r : ℕ) : Finset (Fin 3) :=
  match κ with
  | .inl _ => if r = 0 then Finset.univ else ∅
  | .inr (.inl _) => if r < 16 then {0} else ∅
  | .inr (.inr _) => if r = 0 then {0} else ∅

/-- The first round a cell has none in. -/
def lastRd (κ : Cell) : ℕ := match κ with | .inl _ => 1 | .inr (.inl _) => 16 | .inr (.inr _) => 1

theorem dut_last (κ : Cell) (r : ℕ) (h : lastRd κ ≤ r) : dut κ r = ∅ := by
  rcases κ with ⟨⟩ | s | κ <;> simp only [dut, lastRd] at h ⊢ <;> exact if_neg (by omega)

def Rd : Schedule (GSem nD τ sig) (Fin 3) 𝕄 where
  duties g r := if g.1.2 = .tc then dut (cellAt g.2) r else ∅
  amount g _ _ := amt (cellAt g.2)
  payload g r p := pay m g.1.1 (cellAt g.2) r p
  amount_pos g _ _ _ := amt_pos _

instance Rd_payload_storable (g : GSem nD τ sig) (r : ℕ) (p : Fin 3) :
    BI.Storable (upEmb : UEmb _ 𝕄) ((Rd (F := F) m).payload g r p) := by
  show BI.Storable upEmb (pay m g.1.1 (cellAt g.2) r p); infer_instance

section Facts
variable (c : Dev nD) (κ : Cell)

theorem duties_eq (r : ℕ) : (Rd (F := F) m).duties (cel c κ) r = dut κ r := by
  dsimp only [Rd]; rw [if_pos rfl, cellAt_semOf]
theorem amount_eq (r : ℕ) (p : Fin 3) : (Rd (F := F) m).amount (cel c κ) r p = amt κ := by
  dsimp only [Rd]; rw [cellAt_semOf]
theorem payload_eq (r : ℕ) (p : Fin 3) : (Rd (F := F) m).payload (cel c κ) r p = pay m c κ r p := by
  dsimp only [Rd]; rw [cellAt_semOf]
theorem expect_eq (r : ℕ) : (Rd (F := F) m).expect (cel c κ) r = (dut κ r).card * amt κ := by
  unfold Schedule.expect Schedule.amountOf
  rw [duties_eq, Finset.sum_congr rfl fun d _ => amount_eq m c κ r d, Finset.sum_const, smul_eq_mul]
theorem rest_one {r : ℕ} (h : dut κ r = {0}) :
    bigSep ((Rd (F := F) m).duties (cel c κ) r \ ∅) (fun p => (Rd (F := F) m).payload (cel c κ) r p) = pay m c κ r 0 := by
  rw [Finset.sdiff_empty, duties_eq, h, bigSep_singleton, payload_eq]
theorem expect_one {r : ℕ} (h : dut κ r = {0}) : (Rd (F := F) m).expect (cel c κ) r = amt κ := by
  rw [expect_eq, h, Finset.card_singleton, Nat.one_mul]
theorem expect_bar : (Rd (F := F) m).expect (cel c cBar) 0 = 3 := by
  rw [expect_eq]; rfl
theorem rest_bar :
    bigSep ((Rd (F := F) m).duties (cel c cBar) 0 \ ∅) (fun p => (Rd (F := F) m).payload (cel c cBar) 0 p)
      = iprop(lend (peer 0 c) 0 ∗ lend (peer 1 c) 1 ∗ lend (peer 2 c) 2) := by
  rw [Finset.sdiff_empty, duties_eq, show dut cBar 0 = Finset.univ from rfl,
    bigSep_univ_eq_bigSepL [0, 1, 2] (by decide) (by decide), bigSepL_cons_cons, bigSepL_cons_cons, bigSepL_singleton,
    payload_eq, payload_eq, payload_eq]
  rfl
end Facts

/-! ## The levels -/

def L (g : GSem nD τ sig) : Finset Unit := if g.1.2 = .tc then {()} else ∅
def lvl : Cell → ℕ
  | .inl _ => 1
  | .inr (.inr (.inr (.inr (k, i)))) => rvLv k i
  | _ => 0
def lv (g : GSem nD τ sig) (_ : Unit) : ℕ := lvl (cellAt g.2)

theorem L_of_ne (g : GSem nD τ sig) (h : g.1.2 ≠ .tc) : L g = ∅ := if_neg h
theorem L_tc (c : Dev nD) (sm : SemLoc sig) : L ((c : Thread nD τ), sm) = {()} := if_pos rfl
theorem lv_cel (c : Dev nD) (κ : Cell) (u : Unit) : lv (cel c κ) u = lvl κ := by unfold lv; rw [cellAt_semOf]

end Cert.Kernel.Run

end
-- ==== Proof.K.Rules.lean ====
/-
  What every name of the bookkeeping stands for on a device, and that each effect turns what it takes into what it
  gives.
-/
module

public import proofs.«01_k».proof.Proof.K.Sched

@[expose] public section

noncomputable section

namespace Cert.Kernel.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.Plan Cert.Kernel.Gen

variable {F : FTy → Type} [FloatOps F]

local notation "𝕄" => MT nD τ sig Unit (Elt F) ℕ UU ℕ

variable (m : (ℓ : Loc nD τ sig) → Buf (Elt F) ℓ)

abbrev 𝒱₀ : Variants := Variants.none

/-- The device a send on a lane goes to. -/
abbrev dstDev (c : Dev nD) (k : Lane) (i : Fin 32) : Dev nD := peer (laneTo k i) c

/-! ## The names -/

abbrev at0 (c : Dev nD) (κ : Cell) (r : ℕ) : sProp 𝕄 := atPos ER (cel c κ) r ∅ 0
abbrev rch (c : Dev nD) (κ : Cell) (r : ℕ) : sProp 𝕄 := reached ER (cel c κ) r
abbrev tok (c : Dev nD) (κ : Cell) (r : ℕ) (p : Fin 3) : sProp 𝕄 := dutyTok ER (cel c κ) r p
abbrev crd (c : Dev nD) (κ : Cell) (N : ℕ) : sProp 𝕄 := cred (tallyAt (cel c κ) () N)

def slotE (n : Fin 136) : Fin 8 := ⟨n.val % 8, Nat.mod_lt _ (by decide)⟩

def A (c : Dev nD) : Atom → sProp 𝕄
  | .ldI n => iprop(tok c (cLd (slot8 n)) (n.val / 8) 0 ∗ xP m c (xb c n))
  | .ldB n => iprop(crd c (cLd (slot8 n)) NL ∗ at0 c (cLd (slot8 n)) (n.val / 8))
  | .ldD n => xP m c (xb c n)
  | .vxE n => iprop(at0 c (cLd (slotE n)) (n.val / 8) ∗ rch c (cLd (slotE n)) (n.val / 8) ∗ ∃ f, vxP c (slotE n) f)
  | .vxF n => iprop(at0 c (cLd (slot8 n)) (n.val / 8 + 1) ∗ rch c (cLd (slot8 n)) (n.val / 8 + 1) ∗ vxP c (slot8 n) (vxVal m c n))
  | .vcE i => iprop(∃ f, vcP c i fullShare f)
  | .vcL i => vcP c i fullShare.left (vcVal m c)
  | .vcR i => vcP c i fullShare.right (vcVal m c)
  | .vkE s => iprop(∃ f, vkP c s f)
  | .vkF n => vkP c (slot2 n) (vkVal m c n)
  | .stI n => iprop(at0 c (cSt n) 0 ∗ tok c (cSt n) 0 0 ∗ ∃ f, oP c (ob c n) fullShare f)
  | .stB n => iprop(crd c (cSt n) NB ∗ at0 c (cSt n) 0)
  | .stD n => iprop(at0 c (cSt n) 1 ∗ oV m c (ob c n) fullShare)
  | .sdI k i => iprop(at0 c (cSd k i) 0 ∗ tok c (cSd k i) 0 0 ∗ tok (dstDev c k i) (cRv k i) 0 0)
  | .sdB k i => iprop(crd c (cSd k i) NB ∗ at0 c (cSd k i) 0)
  | .sdD k i => at0 c (cSd k i) 1
  | .tgt k i => iprop(∃ f, oP (dstDev c k i) (rb k (dstDev c k i) i) fullShare f)
  | .rvI k i => iprop(at0 c (cRv k i) 0 ∗ crd c (cRv k i) NB)
  | .rvD k i => at0 c (cRv k i) 1
  | .zL i => oV m c (rb .z c i) fullShare.left
  | .zR i => oV m c (rb .z c i) fullShare.right
  | .rcF k i => oV m c (rb k c i) fullShare
  | .sg p => iprop(tok (peer p c) cBar 0 p ∗ lend c p)
  | .barI => iprop(at0 c cBar 0 ∗ crd c cBar 3)
  | .barD => at0 c cBar 1

/-! ## What every device knows -/

variable (K : Dev nD × Cell → ℕ)

/-- Every cell's invariant, and that every cell has begun. -/
def records : sProp 𝕄 :=
  iprop((bigSep Finset.univ fun a : Dev nD × Cell => cellInv ER (Rd m) (K a) (cel a.1 a.2))
    ∗ bigSep Finset.univ fun a : Dev nD × Cell => reached ER (cel a.1 a.2) 0)

instance records_persistent : BI.Persistent (records (F := F) m K) := by unfold records; infer_instance

theorem records_inv (c : Dev nD) (κ : Cell) : records m K ⊢ cellInv ER (Rd (F := F) m) (K (c, κ)) (cel c κ) := by
  have h : (bigSep Finset.univ fun a : Dev nD × Cell => cellInv ER (Rd (F := F) m) (K a) (cel a.1 a.2))
      ⊢ cellInv ER (Rd (F := F) m) (K (c, κ)) (cel c κ) := bigSep_elim (Finset.mem_univ (c, κ))
  unfold records
  iintro ⟨H, -⟩
  iapply h; iexact H

theorem records_rch (c : Dev nD) (κ : Cell) : records m K ⊢ (rch c κ 0 : sProp 𝕄) := by
  have h : (bigSep Finset.univ fun a : Dev nD × Cell => (reached ER (cel a.1 a.2) 0 : sProp 𝕄)) ⊢ (rch c κ 0 : sProp 𝕄) :=
    bigSep_elim (Finset.mem_univ (c, κ))
  unfold records
  iintro ⟨-, H⟩
  iapply h; iexact H

/-! ## What a device owes -/

def payT (c : Dev nD) : Op → CellTallies nD τ sig Unit
  | .sig p => tallyAt (cel (peer p c) cBar) () 1
  | .snd k i => tallyAt (cel (dstDev c k i) (cRv k i)) () NB
  | _ => 0
/-- What the effects of a list pay to other devices. -/
def owedL (c : Dev nD) : List Op → CellTallies nD τ sig Unit
  | [] => 0
  | o :: os => owedL c os + payT c o

def owesE (c : Dev nD) (O : CellTallies nD τ sig Unit) : sProp 𝕄 := iprop(∃ W, owes (c : Thread nD τ) O W)

theorem payT_pos (c : Dev nD) (o : Op) (g : GSem nD τ sig) (u : Unit) (h : 0 < payT c o g u) :
    ∃ l, payLv o = some l ∧ ∃ c' κ, g = cel c' κ ∧ lvl κ = l := by
  cases o with
  | sig p =>
    rw [payT, tallyAt_apply] at h
    by_cases hg : g = cel (peer p c) cBar ∧ u = ()
    · exact ⟨1, rfl, _, _, hg.1, rfl⟩
    · rw [if_neg hg] at h; exact absurd h (Nat.lt_irrefl 0)
  | snd k i =>
    rw [payT, tallyAt_apply] at h
    by_cases hg : g = cel (dstDev c k i) (cRv k i) ∧ u = ()
    · exact ⟨_, rfl, _, _, hg.1, rfl⟩
    · rw [if_neg hg] at h; exact absurd h (Nat.lt_irrefl 0)
  | _ => exact absurd h (Nat.lt_irrefl 0)

theorem owedL_pos (c : Dev nD) (os : List Op) (g : GSem nD τ sig) (u : Unit) (h : 0 < owedL c os g u) :
    ∃ c' κ, g = cel c' κ ∧ minLv os ≤ lvl κ := by
  have : ∃ o ∈ os, 0 < payT c o g u := by
    induction os with
    | nil => exact absurd h (Nat.lt_irrefl 0)
    | cons o os ih =>
      rw [owedL, Pi.add_apply, Finsupp.add_apply] at h
      by_cases h' : 0 < owedL c os g u
      · obtain ⟨o', ho', hp⟩ := ih h'; exact ⟨o', List.mem_cons_of_mem _ ho', hp⟩
      · exact ⟨o, List.mem_cons_self, by omega⟩
  obtain ⟨o, ho, hp⟩ := this
  obtain ⟨l, hl, c', κ, hg, hκ⟩ := payT_pos c o g u hp
  exact ⟨c', κ, hg, hκ ▸ minLv_le o os l ho hl⟩

theorem mayWait (c : Dev nD) (κ : Cell) (os : List Op) (h : lvl κ < minLv os) :
    (levAts L lv : sProp 𝕄) ⊢ MayWait (c : Thread nD τ) (semOf κ) () (owedL c os) :=
  MayOwe.of_cut (L := L) (lev := lv) (lvl κ) (fun p hp => by rw [Finset.mem_singleton.mp hp, L_tc]; exact Finset.mem_singleton_self _)
    (fun g u hg => by
      obtain ⟨c', κ', rfl, -⟩ := owedL_pos c os g u hg
      rw [L_tc]; exact Finset.mem_singleton_self _)
    (fun p hp => by rw [Finset.mem_singleton.mp hp]; exact le_of_eq (lv_cel c κ ()))
    (fun g u hg => by
      obtain ⟨c', κ', rfl, hl⟩ := owedL_pos c os g u hg
      rw [lv_cel]; exact lt_of_lt_of_le h hl)

/-! ## A wait -/

abbrev WP (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- A wait for a transfer's round: the round's payload, at the next round. -/
theorem wait_one (c : Dev nD) (κ : Cell) (r : ℕ) (hr : dut κ r = {0}) (os : List Op) (hl : lvl κ < minLv os)
    {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (semOf κ) (amt κ) K)
    (k : Prog (TpuEff nD τ sig (Elt F) Λ₀ .tc) PUnit) (Q : PUnit → sProp 𝕄) :
    iprop(records m K ∗ levAts L lv ∗ crd c κ (amt κ) ∗ at0 c κ r ∗ owesE c (owedL c os))
      ⊢ iprop(((at0 c κ (r + 1) ∗ rch c κ (r + 1) ∗ pay m c κ r 0 ∗ owesE c (owedL c os)) -∗ WP c k Q)
        -∗ WP c (.op w fun _ => k) Q) := by
  unfold owesE
  iintro ⟨#HR, #Hlev, Hc, Hat, ⟨%W, HO⟩⟩ Hk
  iapply (Rounds.wp_wait_rest_token 𝒱₀ ER (Rd m) (c : Thread nD τ) none (κ := K (c, κ)) hw (Set.mem_univ _) ()
    (O := owedL c os) (W := W) (R := r) (m := 0) (T := ∅) (by rw [Nat.zero_add, expect_one m c κ hr])) $$ [Hc Hat HO]
  · isplitr; · iapply (records_inv m K c κ); iexact HR
    isplitl [Hc]; · iexact Hc
    isplitl [HO]; · iexact HO
    isplitr; · iapply (mayWait c κ os hl); iexact Hlev
    iexact Hat
  iintro ⟨HO, Hat, Hr, Hp⟩
  ihave Hp := (Entails.of_eq (rest_one m c κ hr)) $$ Hp
  iapply Hk
  isplitl [Hat]; · iexact Hat
  isplitl [Hr]; · iexact Hr
  isplitl [Hp]; · iexact Hp
  iexists _; iexact HO

end Cert.Kernel.Run

end
-- ==== Proof.K.Steps.lean ====
/-
  Each effect of the plan turns the names it takes into the names it gives.
-/
module

public import proofs.«01_k».proof.Proof.K.Rules

@[expose] public section

noncomputable section

namespace Cert.Kernel.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.Plan Cert.Kernel.Gen

variable {F : FTy → Type} [FloatOps F]

local notation "𝕄" => MT nD τ sig Unit (Elt F) ℕ UU ℕ

variable (m : (ℓ : Loc nD τ sig) → Buf (Elt F) ℓ) (K : Dev nD × Cell → ℕ)

/-! ## Pieces of memory under the views' names -/

/-- The elements a view has written hold any contents that read, through the view, as what was written. -/
theorem pts_written {sp : Space} {s : Shape} {e : EltTy} (v : View sig .tc sp s e) (c : Dev nD) (q : PosShare TreeShare)
    (fd g : Buf (Elt F) (v.loc (c : Thread nD τ))) (w : s.Idx → Elt F e) (h : v.read (Elt F) g = w) :
    (v.loc (c : Thread nD τ) ↦[v.set]{q} v.write (Elt F) fd w Finset.univ : sProp 𝕄) = (v.loc (c : Thread nD τ) ↦[v.set]{q} g) :=
  pointsTo_congr fun i hi => by
    obtain ⟨x, -, rfl⟩ := Finset.mem_map.mp hi
    rw [View.write_emb_of_mem _ _ (Finset.mem_univ x), ← h, View.read_apply, cast_cast, cast_eq]

section Pts
variable (c : Dev nD) (q : PosShare TreeShare)

theorem xM_pts (n : Fin 128) : ((xM c n).view.loc (c : Thread nD τ) ↦[(xM c n).view.set]{fullShare} xVal m c : sProp 𝕄) = xP m c (xb c n) :=
  congrArg (fun S => (((c : Thread nD τ).loc main_arg0) ↦[S]{fullShare} xVal m c : sProp 𝕄)) (xM_set c n)
theorem oM_pts (n : Fin 128) (f) : ((oM c n).view.loc (c : Thread nD τ) ↦[(oM c n).view.set]{q} f : sProp 𝕄) = oP c (ob c n) q f :=
  congrArg (fun S => (((c : Thread nD τ).loc main_v1) ↦[S]{q} f : sProp 𝕄)) (oM_set c n)
theorem rM_pts (k : Lane) (i : Fin 32) (f) : ((rM k c i).view.loc (c : Thread nD τ) ↦[(rM k c i).view.set]{q} f : sProp 𝕄) = oP c (rb k c i) q f :=
  congrArg (fun S => (((c : Thread nD τ).loc main_v1) ↦[S]{q} f : sProp 𝕄)) (rM_set k c i)
theorem vxM_pts (s : Fin 8) (f) : ((vxM s).view.loc (c : Thread nD τ) ↦[(vxM s).view.set]{fullShare} f : sProp 𝕄) = vxP c s f :=
  congrArg (fun S => (((c : Thread nD τ).loc cc0_scratch0) ↦[S]{fullShare} f : sProp 𝕄)) (vxM_set s)
theorem vcM_pts (s : Fin 32) (f) : ((vcM s).view.loc (c : Thread nD τ) ↦[(vcM s).view.set]{q} f : sProp 𝕄) = vcP c s q f :=
  congrArg (fun S => (((c : Thread nD τ).loc cc0_scratch1) ↦[S]{q} f : sProp 𝕄)) (vcM_set s)
theorem vkM_pts (s : Fin 2) (f) : ((vkM s).view.loc (c : Thread nD τ) ↦[(vkM s).view.set]{fullShare} f : sProp 𝕄) = vkP c s f :=
  congrArg (fun S => (((c : Thread nD τ).loc cc0_scratch2) ↦[S]{fullShare} f : sProp 𝕄)) (vkM_set s)
theorem vxA_pts (s : Fin 8) (f) : ((vxA.access (vxR s)).loc (c : Thread nD τ) ↦[(vxA.access (vxR s)).set]{fullShare} f : sProp 𝕄) = vxP c s f :=
  congrArg (fun S => (((c : Thread nD τ).loc cc0_scratch0) ↦[S]{fullShare} f : sProp 𝕄)) (vxA_set s)
theorem vcA_pts (s : Fin 32) (f) : ((vcA.access (vcR s)).loc (c : Thread nD τ) ↦[(vcA.access (vcR s)).set]{fullShare} f : sProp 𝕄) = vcP c s fullShare f :=
  congrArg (fun S => (((c : Thread nD τ).loc cc0_scratch1) ↦[S]{fullShare} f : sProp 𝕄)) (vcA_set s)
theorem vkA_pts (s : Fin 2) (f) : ((vkA.access (vkR s)).loc (c : Thread nD τ) ↦[(vkA.access (vkR s)).set]{fullShare} f : sProp 𝕄) = vkP c s f :=
  congrArg (fun S => (((c : Thread nD τ).loc cc0_scratch2) ↦[S]{fullShare} f : sProp 𝕄)) (vkA_set s)

theorem oP_halves (b : Fin 256) (f) : (oP c b fullShare f : sProp 𝕄) ⊢ iprop(oP c b fullShare.left f ∗ oP c b fullShare.right f) := by
  unfold oP; exact (pointsTo_share (PosShare.mem_left_op_right fullShare)).1
theorem vcP_halves (s : Fin 32) (f) : (vcP c s fullShare f : sProp 𝕄) ⊢ iprop(vcP c s fullShare.left f ∗ vcP c s fullShare.right f) := by
  unfold vcP; exact (pointsTo_share (PosShare.mem_left_op_right fullShare)).1
theorem oP_whole (b : Fin 256) (f) : iprop(oP c b fullShare.left f ∗ oP c b fullShare.right f) ⊢ (oP c b fullShare f : sProp 𝕄) := by
  unfold oP; exact (pointsTo_share (PosShare.mem_left_op_right fullShare)).2
theorem vcP_whole (s : Fin 32) (f) : iprop(vcP c s fullShare.left f ∗ vcP c s fullShare.right f) ⊢ (vcP c s fullShare f : sProp 𝕄) := by
  unfold vcP; exact (pointsTo_share (PosShare.mem_left_op_right fullShare)).2
end Pts

/-! ## The steps -/

/-- Effect `o`, followed by the effects `os`, turns what it takes into what it gives. -/
def StepOk (c : Dev nD) (o : Op) (os : List Op) : Prop :=
  ∀ (k : Prog (TpuEff nD τ sig (Elt F) Λ₀ .tc) PUnit) (Q : PUnit → sProp 𝕄),
    iprop(records m K ∗ levAts L lv ∗ sepL (need o) (A m c) ∗ owesE c (owedL c (o :: os)))
      ⊢ iprop(((sepL (give o) (A m c) ∗ owesE c (owedL c os)) -∗ WP c k Q) -∗ WP c (step c o k) Q)

theorem owedL_skip (c : Dev nD) (o : Op) (os : List Op) (h : payT c o = 0) : owedL c (o :: os) = owedL c os := by
  rw [owedL, h, add_zero]

theorem A_srcAtom (c : Dev nD) (k : Lane) (i : Fin 32) : A m c (srcAtom k i) = sdSrc m c k i := by cases k <;> rfl

/-- A signal to a neighbour. -/
theorem step_sig (c : Dev nD) (p : Fin 3) (os : List Op) : StepOk m K c (.sig p) os := by
  intro k Q
  simp only [need, give, sepL_cons, sepL_nil, A]
  unfold owesE step
  iintro ⟨#HR, -, ⟨⟨Ht, Hp⟩, -⟩, ⟨%W, HO⟩⟩ Hk
  iapply (Rounds.wp_signal 𝒱₀ ER (Rd m) (c : Thread nD τ) none (dst := (peer p c : Thread nD τ)) (sem := barS) (κ := K (peer p c, cBar)) (r := 0)
      (d := p) (by rw [show ((peer p c : Thread nD τ), SemLoc.reg barS) = cel (peer p c) cBar from rfl, duties_eq]; exact Finset.mem_univ _)
      (amount_eq m (peer p c) cBar 0 p) () (owedL c os) rfl) $$ [HO Ht Hp]
  · isplitr; · iapply (records_inv m K (peer p c) cBar); iexact HR
    isplitl [HO]; · iexact HO
    isplitl [Ht]; · iexact Ht
    isplitl [Hp]
    · have e : (lend c p : sProp 𝕄) ⊢ (Rd m).payload ((peer p c : Thread nD τ), .reg barS) 0 p :=
        Entails.of_eq ((payload_eq m (peer p c) cBar 0 p).trans (by rw [pay, peer_invol])).symm
      iapply e; iexact Hp
    iapply (records_rch m K (peer p c) cBar); iexact HR
  iintro HO
  iapply Hk
  isplitr; · iempintro
  iexists W; iexact HO

theorem sepL_congr_mem {α : Type} (l : List α) (f g : α → sProp 𝕄) (h : ∀ a ∈ l, f a = g a) : sepL l f = sepL l g := by
  induction l with
  | nil => rfl
  | cons a l ih =>
    rw [sepL_cons, sepL_cons, h a List.mem_cons_self, ih fun a' h' => h a' (List.mem_cons_of_mem _ h')]

/-- What the neighbours lend a device is a block for every send. -/
theorem lend_tgt (c : Dev nD) :
    iprop(lend (peer 0 c) 0 ∗ lend (peer 1 c) 1 ∗ lend (peer 2 c) 2) = (sepL (lanes.map fun p => Atom.tgt p.1 p.2) (A m c) : sProp 𝕄) := by
  have h : ∀ p : Fin 3, (lend (peer p c) p : sProp 𝕄)
      = sepL (lanes.filter fun a => laneTo a.1 a.2 = p) fun a => A m c (.tgt a.1 a.2) := fun p =>
    sepL_congr_mem _ _ _ fun a ha => by
      have := of_decide_eq_true (List.mem_filter.mp ha).2
      subst this; rfl
  rw [sepL_map, h 0, h 1, h 2]
  exact sepL_three (fun a : Lane × Fin 32 => laneTo a.1 a.2) lanes _

/-- The wait for the three neighbours. -/
theorem step_bar (c : Dev nD) (os : List Op) (hl : 1 < minLv os) : StepOk m K c .bar os := by
  intro k Q
  rw [owedL_skip c .bar os rfl]
  simp only [need, give, sepL_cons, sepL_nil]
  rw [← lend_tgt]
  simp only [A]
  unfold owesE step
  iintro ⟨#HR, #Hlev, ⟨⟨Hat, Hc⟩, -⟩, ⟨%W, HO⟩⟩ Hk
  iapply (Rounds.wp_wait_rest_token 𝒱₀ ER (Rd m) (c : Thread nD τ) none (κ := K (c, cBar)) (wpE_semWait_eq 𝒱₀ (c : Thread nD τ) none Set.univ)
    (Set.mem_univ _) () (O := owedL c os) (W := W) (R := 0) (m := 0) (T := ∅)
    (by rw [Nat.zero_add]; exact (expect_bar m c).symm)) $$ [Hc Hat HO]
  · isplitr; · iapply (records_inv m K c cBar); iexact HR
    isplitl [Hc]; · iexact Hc
    isplitl [HO]; · iexact HO
    isplitr; · iapply (mayWait c cBar os hl); iexact Hlev
    iexact Hat
  iintro ⟨HO, Hat, -, Hp⟩
  have e : bigSep ((Rd m).duties ((c : Thread nD τ), .reg barS) 0 \ ∅) (fun p => (Rd m).payload ((c : Thread nD τ), .reg barS) 0 p)
      ⊢ iprop(lend (peer 0 c) 0 ∗ lend (peer 1 c) 1 ∗ lend (peer 2 c) 2) := Entails.of_eq (rest_bar m c)
  ihave Hp := e $$ Hp
  iapply Hk
  isplitl [Hat Hp]
  · isplitl [Hat]; · iexact Hat
    iexact Hp
  iexists _; iexact HO

/-- The start of a copy on one device. -/
theorem copy_one (c : Dev nD) (κ : Cell) (r : ℕ) (hr : dut κ r = {0}) {sp sp' : Space} {e : EltTy}
    {src : Memref sig .tc sp S128x1024 e} {dst : Memref sig .tc sp' S128x1024 e} (sm : SemLoc sig) (hs : sm = semOf κ)
    {q : PosShare TreeShare} {fs : Buf (Elt F) (src.view.loc (c : Thread nD τ))} {fd : Buf (Elt F) (dst.view.loc (c : Thread nD τ))}
    (hN : dst.view.amount sm = amt κ) (g : Buf (Elt F) (dst.view.loc (c : Thread nD τ)))
    (hv : dst.view.read (Elt F) g = src.view.read (Elt F) fs)
    (hpay : iprop((dst.view.loc (c : Thread nD τ) ↦[dst.view.set]{fullShare} g) ∗ (src.view.loc (c : Thread nD τ) ↦[src.view.set]{q} fs))
      ⊢ pay m c κ r 0)
    {hsrc : src.view.WordExact} {hdst : dst.view.WordExact} {hsem : DmaTarget.Typed sp sm (.here dst : DmaTarget nD τ sig .tc sp' S128x1024 e)}
    (k : Prog (TpuEff nD τ sig (Elt F) Λ₀ .tc) PUnit) (Q : PUnit → sProp 𝕄) :
    iprop(records m K ∗ (src.view.loc (c : Thread nD τ) ↦[src.view.set]{q} fs) ∗ (dst.view.loc (c : Thread nD τ) ↦[dst.view.set]{fullShare} fd)
        ∗ tok c κ r 0 ∗ rch c κ r)
      ⊢ iprop((crd c κ (amt κ) -∗ WP c k Q) -∗ WP c (.op (.enqueueDma src (.here dst) sm hsrc hdst hsem) fun _ => k) Q) := by
  subst hs
  iintro ⟨#HR, Hs, Hd, Ht, Hr⟩ Hk
  iapply (Rounds.wp_copy_pointsTo 𝒱₀ ER (Rd m) (c : Thread nD τ) none (κ := K (c, κ)) (r := r) (d := 0)
      (by rw [duties_eq, hr]; exact Finset.mem_singleton_self _) () (amt κ) hN (amount_eq m c κ _ 0)
      (by rw [payload_eq, pts_written dst.view c fullShare fd g _ hv]; exact hpay)) $$ [Hs Hd Ht Hr]
  · isplitr; · iapply (records_inv m K c κ); iexact HR
    isplitl [Hs]; · iexact Hs
    isplitl [Hd]; · iexact Hd
    isplitl [Ht]; · iexact Ht
    iexact Hr
  iexact Hk

/-- The start of a load. -/
theorem step_ld (c : Dev nD) (n : Fin 128) (os : List Op) : StepOk m K c (.ld n) os := by
  intro k Q
  rw [owedL_skip c (.ld n) os rfl]
  simp only [need, give, sepL_cons, sepL_nil, A]
  rw [show slotE ⟨n.val, by omega⟩ = slot8 n from rfl]
  have hd : dut (cLd (slot8 n)) (n.val / 8) = {0} := if_pos (by omega)
  have hb : ldBlk (slot8 n) (n.val / 8) = n := Fin.ext (by show (8 * (n.val / 8) + n.val % 8) % 128 = n.val; omega)
  unfold step
  iintro ⟨#HR, -, ⟨⟨Ht, Hx⟩, ⟨Hat, Hr, ⟨%f, Hv⟩⟩, -⟩, HO⟩ Hk
  ihave Hx := (Entails.of_eq (xM_pts m c n).symm) $$ Hx
  ihave Hv := (Entails.of_eq (vxM_pts c (slot8 n) f).symm) $$ Hv
  iapply (copy_one m K c (cLd (slot8 n)) (n.val / 8) hd (.dma (ldS (slot8 n))) rfl (credit_vx _) (vxVal m c n) (load_eq m c n _)
      (by rw [vxM_pts, xM_pts, pay, hb])) $$ [Ht Hr Hx Hv]
  · isplitr; · iexact HR
    isplitl [Hx]; · iexact Hx
    isplitl [Hv]; · iexact Hv
    isplitl [Ht] <;> iassumption
  iintro Hc
  iapply Hk
  isplitl [Hc Hat]
  · isplitl
    · isplitl [Hc]; · iexact Hc
      iexact Hat
    iempintro
  iexact HO

/-- The wait for a load. -/
theorem step_ldw (c : Dev nD) (n : Fin 128) (os : List Op) (hl : 0 < minLv os) : StepOk m K c (.ldw n) os := by
  intro k Q
  rw [owedL_skip c (.ldw n) os rfl]
  simp only [need, give, sepL_cons, sepL_nil, A]
  have hd : dut (cLd (slot8 n)) (n.val / 8) = {0} := if_pos (by omega)
  have hb : ldBlk (slot8 n) (n.val / 8) = n := Fin.ext (by show (8 * (n.val / 8) + n.val % 8) % 128 = n.val; omega)
  have hp : (pay m c (cLd (slot8 n)) (n.val / 8) 0 : sProp 𝕄) ⊢ iprop(vxP c (slot8 n) (vxVal m c n) ∗ xP m c (xb c n)) := by
    rw [pay, hb]
  have main : ∀ {w : TpuEff nD τ sig (Elt F) Λ₀ .tc PUnit}
      (hw : ∀ K : PUnit → sProp 𝕄, wpE (defs₀ (F := F)) 𝒱₀ (c : Thread nD τ) none Set.univ w K
        = waitSpec (c : Thread nD τ) Set.univ (semOf (cLd (slot8 n))) (amt (cLd (slot8 n))) K),
      iprop(records m K ∗ levAts L lv ∗ ((crd c (cLd (slot8 n)) NL ∗ at0 c (cLd (slot8 n)) (n.val / 8)) ∗ emp) ∗ owesE c (owedL c os))
        ⊢ iprop(((((at0 c (cLd (slot8 n)) (n.val / 8 + 1) ∗ rch c (cLd (slot8 n)) (n.val / 8 + 1) ∗ vxP c (slot8 n) (vxVal m c n))
            ∗ xP m c (xb c n) ∗ emp) ∗ owesE c (owedL c os)) -∗ WP c k Q) -∗ WP c (.op w fun _ => k) Q) := by
    intro w hw
    iintro ⟨#HR, #Hlev, ⟨⟨Hc, Hat⟩, -⟩, HO⟩ Hk
    iapply (wait_one m K c (cLd (slot8 n)) (n.val / 8) hd os hl hw) $$ [Hc Hat HO]
    · isplitr; · iexact HR
      isplitr; · iexact Hlev
      isplitl [Hc]; · iexact Hc
      isplitl [Hat] <;> iassumption
    iintro ⟨Hat, Hr, Hp, HO⟩
    ihave Hp := hp $$ Hp
    icases Hp with ⟨Hv, Hx⟩
    iapply Hk
    isplitl [Hat Hr Hv Hx]
    · isplitl [Hat Hr Hv]
      · isplitl [Hat]; · iexact Hat
        isplitl [Hr] <;> iassumption
      isplitl [Hx]; · iexact Hx
      iempintro
    iexact HO
  exact main (wpE_waitDma2_eq 𝒱₀ (c : Thread nD τ) none Set.univ)

/-- A block cast into its slot. -/
theorem step_cast (c : Dev nD) (n : Fin 128) (os : List Op) : StepOk m K c (.cast n) os := by
  intro k Q
  rw [owedL_skip c (.cast n) os rfl]
  simp only [need, give, sepL_cons, sepL_nil]
  have hE : slotE ⟨n.val + 8, by omega⟩ = slot8 n := Fin.ext (by show (n.val + 8) % 8 = n.val % 8; omega)
  have hr : (n.val + 8) / 8 = n.val / 8 + 1 := by omega
  have hA : (A m c (.vxE ⟨n.val + 8, by omega⟩) : sProp 𝕄)
      = iprop(at0 c (cLd (slot8 n)) (n.val / 8 + 1) ∗ rch c (cLd (slot8 n)) (n.val / 8 + 1) ∗ ∃ f, vxP c (slot8 n) f) := by
    simp only [A, hE, hr]
  rw [hA]
  unfold step
  by_cases h : n.val < 32
  · have hb : f32 n.val = blk n := rfl
    simp only [castNeed, castGive, h, if_true, A, hb, sepL_cons, sepL_nil]
    iintro ⟨-, -, ⟨⟨Hat, Hr, Hv⟩, ⟨%f, Hw⟩, -⟩, HO⟩ Hk
    ihave Hv := (Entails.of_eq (vxA_pts c (slot8 n) _).symm) $$ Hv
    ihave Hw := (Entails.of_eq (vcA_pts c (blk n) _).symm) $$ Hw
    iapply (wp_load_rect 𝒱₀ (c : Thread nD τ) none Set.univ (m := vxA) (r := vxR (slot8 n)) (Finset.Subset.refl _)) $$ Hv
    iintro Hv
    iapply (wp_load_rect 𝒱₀ (c : Thread nD τ) none Set.univ (m := vcA) (r := vcR (blk n)) (Finset.Subset.refl _)) $$ Hw
    iintro Hw
    iapply (wp_store 𝒱₀ (c : Thread nD τ) none Set.univ (m := vcA) (r := vcR (blk n)) (Mk := Finset.univ)
      (S := (vcA.access (vcR (blk n))).set) (Finset.Subset.refl _)) $$ Hw
    iintro Hw
    ihave Hw := (Entails.of_eq ((pts_written (vcA.access (vcR (blk n))) c fullShare f (vcVal m c) _ (cast_vc_eq m c n h (slot8 n))).trans (vcA_pts c (blk n) _))) $$ Hw
    ihave Hw := (vcP_halves c (blk n) _) $$ Hw
    icases Hw with ⟨HwL, HwR⟩
    ihave Hv := (Entails.of_eq (vxA_pts c (slot8 n) _)) $$ Hv
    iapply Hk
    isplitr [HO]
    · isplitl [Hat Hr Hv]
      · isplitl [Hat]; · iexact Hat
        isplitl [Hr]; · iexact Hr
        iexists _; iexact Hv
      isplitl [HwL]; · iexact HwL
      isplitl [HwR]; · iexact HwR
      iempintro
    iexact HO
  · have hb : (⟨n.val % 2, Nat.mod_lt _ (by decide)⟩ : Fin 2) = slot2 n := rfl
    simp only [castNeed, castGive, h, if_false, A, hb, sepL_cons, sepL_nil]
    iintro ⟨-, -, ⟨⟨Hat, Hr, Hv⟩, ⟨%f, Hw⟩, -⟩, HO⟩ Hk
    ihave Hv := (Entails.of_eq (vxA_pts c (slot8 n) _).symm) $$ Hv
    ihave Hw := (Entails.of_eq (vkA_pts c (slot2 n) _).symm) $$ Hw
    iapply (wp_load_rect 𝒱₀ (c : Thread nD τ) none Set.univ (m := vxA) (r := vxR (slot8 n)) (Finset.Subset.refl _)) $$ Hv
    iintro Hv
    iapply (wp_load_rect 𝒱₀ (c : Thread nD τ) none Set.univ (m := vkA) (r := vkR (slot2 n)) (Finset.Subset.refl _)) $$ Hw
    iintro Hw
    iapply (wp_store 𝒱₀ (c : Thread nD τ) none Set.univ (m := vkA) (r := vkR (slot2 n)) (Mk := Finset.univ)
      (S := (vkA.access (vkR (slot2 n))).set) (Finset.Subset.refl _)) $$ Hw
    iintro Hw
    ihave Hw := (Entails.of_eq ((pts_written (vkA.access (vkR (slot2 n))) c fullShare f (vkVal m c n) _ (cast_vk_eq m c n (slot2 n) (slot8 n))).trans (vkA_pts c (slot2 n) _))) $$ Hw
    ihave Hv := (Entails.of_eq (vxA_pts c (slot8 n) _)) $$ Hv
    iapply Hk
    isplitr [HO]
    · isplitl [Hat Hr Hv]
      · isplitl [Hat]; · iexact Hat
        isplitl [Hr]; · iexact Hr
        iexists _; iexact Hv
      isplitl [Hw]; · iexact Hw
      iempintro
    iexact HO

/-- The start of a store. -/
theorem step_st (c : Dev nD) (n : Fin 128) (os : List Op) : StepOk m K c (.st n) os := by
  intro k Q
  rw [owedL_skip c (.st n) os rfl]
  simp only [need, give, sepL_cons, sepL_nil, A]
  unfold step
  by_cases h : n.val < 32
  · have hb : f32 n.val = blk n := rfl
    simp only [stFull, h, if_true, A, hb]
    iintro ⟨#HR, -, ⟨⟨Hat, Ht, ⟨%f, Hd⟩⟩, Hs, -⟩, HO⟩ Hk
    ihave Hs := (Entails.of_eq (vcM_pts c fullShare.right (blk n) _).symm) $$ Hs
    ihave Hd := (Entails.of_eq (oM_pts c fullShare n f).symm) $$ Hd
    iapply (copy_one m K c (cSt n) 0 rfl (.dma (stS n)) rfl (credit_o c n) (outVal m c) (store_vc_eq m c n h)
        (by rw [vcM_pts, oM_pts, pay, stSlot, if_pos h])) $$ [Ht Hs Hd]
    · isplitr; · iexact HR
      isplitl [Hs]; · iexact Hs
      isplitl [Hd]; · iexact Hd
      isplitl [Ht]; · iexact Ht
      iapply (records_rch m K c (cSt n)); iexact HR
    iintro Hc
    iapply Hk
    isplitl [Hc Hat]
    · isplitl
      · isplitl [Hc]; · iexact Hc
        iexact Hat
      iempintro
    iexact HO
  · simp only [stFull, h, if_false, A]
    iintro ⟨#HR, -, ⟨⟨Hat, Ht, ⟨%f, Hd⟩⟩, Hs, -⟩, HO⟩ Hk
    ihave Hs := (Entails.of_eq (vkM_pts c (slot2 n) _).symm) $$ Hs
    ihave Hd := (Entails.of_eq (oM_pts c fullShare n f).symm) $$ Hd
    iapply (copy_one m K c (cSt n) 0 rfl (.dma (stS n)) rfl (credit_o c n) (outVal m c) (store_vk_eq m c n (slot2 n))
        (by rw [vkM_pts, oM_pts, pay, stSlot, if_neg h])) $$ [Ht Hs Hd]
    · isplitr; · iexact HR
      isplitl [Hs]; · iexact Hs
      isplitl [Hd]; · iexact Hd
      isplitl [Ht]; · iexact Ht
      iapply (records_rch m K c (cSt n)); iexact HR
    iintro Hc
    iapply Hk
    isplitl [Hc Hat]
    · isplitl
      · isplitl [Hc]; · iexact Hc
        iexact Hat
      iempintro
    iexact HO

theorem stSlot_free (c : Dev nD) (n : Fin 128) : (stSlot m c n : sProp 𝕄) ⊢ A m c (stFree n) := by
  unfold stSlot stFree
  by_cases h : n.val < 32
  · rw [if_pos h, if_pos h]; exact BI.Entails.refl _
  · rw [if_neg h, if_neg h]
    show vkP c (slot2 n) (vkVal m c n) ⊢ iprop(∃ f, vkP c (slot2 n) f)
    iintro H; iexists _; iexact H

/-- The wait for a store. -/
theorem step_stw (c : Dev nD) (n : Fin 128) (os : List Op) (hl : 0 < minLv os) : StepOk m K c (.stw n) os := by
  intro k Q
  rw [owedL_skip c (.stw n) os rfl]
  simp only [need, give, sepL_cons, sepL_nil]
  rw [show (A m c (.stB n) : sProp 𝕄) = iprop(crd c (cSt n) NB ∗ at0 c (cSt n) 0) from rfl,
    show (A m c (.stD n) : sProp 𝕄) = iprop(at0 c (cSt n) 1 ∗ oV m c (ob c n) fullShare) from rfl]
  have hp : (pay m c (cSt n) 0 0 : sProp 𝕄) ⊢ iprop(oV m c (ob c n) fullShare ∗ stSlot m c n) := BI.Entails.refl _
  have main : ∀ {w : TpuEff nD τ sig (Elt F) Λ₀ .tc PUnit}
      (hw : ∀ K : PUnit → sProp 𝕄, wpE (defs₀ (F := F)) 𝒱₀ (c : Thread nD τ) none Set.univ w K
        = waitSpec (c : Thread nD τ) Set.univ (semOf (cSt n)) (amt (cSt n)) K),
      iprop(records m K ∗ levAts L lv ∗ ((crd c (cSt n) NB ∗ at0 c (cSt n) 0) ∗ emp) ∗ owesE c (owedL c os))
        ⊢ iprop(((((at0 c (cSt n) 1 ∗ oV m c (ob c n) fullShare) ∗ A m c (stFree n) ∗ emp) ∗ owesE c (owedL c os)) -∗ WP c k Q)
          -∗ WP c (.op w fun _ => k) Q) := by
    intro w hw
    iintro ⟨#HR, #Hlev, ⟨⟨Hc, Hat⟩, -⟩, HO⟩ Hk
    iapply (wait_one m K c (cSt n) 0 rfl os hl hw) $$ [Hc Hat HO]
    · isplitr; · iexact HR
      isplitr; · iexact Hlev
      isplitl [Hc]; · iexact Hc
      isplitl [Hat] <;> iassumption
    iintro ⟨Hat, -, Hp, HO⟩
    ihave Hp := hp $$ Hp
    icases Hp with ⟨Ho, Hs⟩
    ihave Hs := (stSlot_free m c n) $$ Hs
    iapply Hk
    isplitr [HO]
    · isplitl [Hat Ho]
      · isplitl [Hat]; · iexact Hat
        iexact Ho
      isplitl [Hs]; · iexact Hs
      iempintro
    iexact HO
  unfold step
  dsimp only
  by_cases h : n.val < 32
  · rw [if_pos h]; exact main (wpE_waitDma2_eq 𝒱₀ (c : Thread nD τ) none Set.univ)
  · rw [if_neg h]; exact main (wpE_waitDma2_eq 𝒱₀ (c : Thread nD τ) none Set.univ)

/-- A send: what it reads goes to the send's semaphore, the neighbour's block with its contents to the arrival's. -/
theorem send_one (c : Dev nD) (k : Lane) (i : Fin 32) (os : List Op) {sp : Space} {src : Memref sig .tc sp S128x1024 .bf16}
    {dst : Memref sig .tc .hbm S128x1024 .bf16} (hdst' : dst = rM k (dstDev c k i) i)
    (sS sR : SemLoc sig) (hS : sS = semOf (cSd k i)) (hR : sR = semOf (cRv k i))
    (q : PosShare TreeShare) (fs : Buf (Elt F) (src.view.loc (c : Thread nD τ)))
    (hsrc' : (src.view.loc (c : Thread nD τ) ↦[src.view.set]{q} fs : sProp 𝕄) = sdSrc m c k i)
    (hv : (rM k (dstDev c k i) i).view.read (Elt F) (outVal m (dstDev c k i)) = src.view.read (Elt F) fs)
    {hsc : dst.view.ref.isScScratch = false}
    {hsrc : src.view.WordExact} {hdst : dst.view.WordExact}
    {hsem : DmaTarget.Typed sp sR (.remote (dstDev c k i : Thread nD τ) dst sS hsc : DmaTarget nD τ sig .tc .hbm S128x1024 .bf16)}
    (kk : Prog (TpuEff nD τ sig (Elt F) Λ₀ .tc) PUnit) (Q : PUnit → sProp 𝕄) :
    iprop(records m K ∗ levAts L lv ∗ ((at0 c (cSd k i) 0 ∗ tok c (cSd k i) 0 0 ∗ tok (dstDev c k i) (cRv k i) 0 0) ∗ sdSrc m c k i
          ∗ (∃ f, oP (dstDev c k i) (rb k (dstDev c k i) i) fullShare f) ∗ emp) ∗ owesE c (owedL c (.snd k i :: os)))
      ⊢ iprop(((((crd c (cSd k i) NB ∗ at0 c (cSd k i) 0) ∗ emp) ∗ owesE c (owedL c os)) -∗ WP c kk Q)
        -∗ WP c (.op (.enqueueDma src (.remote (dstDev c k i : Thread nD τ) dst sS hsc) sR hsrc hdst hsem) fun _ => kk) Q) := by
  subst hdst' hS hR
  unfold owesE
  iintro ⟨#HR, -, ⟨⟨Hat, Ht, Ht'⟩, Hs, ⟨%f, Hd⟩, -⟩, ⟨%W, HO⟩⟩ Hk
  ihave Hs := (Entails.of_eq hsrc'.symm) $$ Hs
  ihave Hd := (Entails.of_eq (rM_pts (dstDev c k i) fullShare k i f).symm) $$ Hd
  iapply (Rounds.wp_send_pointsTo 𝒱₀ ER (Rd m) (c : Thread nD τ) none (κ₁ := K (c, cSd k i)) (κ₂ := K (dstDev c k i, cRv k i))
      (src := src) (dst := rM k (dstDev c k i) i) (sS := semOf (cSd k i)) (sem := semOf (cRv k i)) (c' := (dstDev c k i : Thread nD τ))
      (q := q) (fs := fs) (r₁ := 0) (r₂ := 0) (d₁ := 0) (d₂ := 0) (fd := f)
      (by rw [duties_eq]; exact Finset.mem_singleton_self _) (by rw [duties_eq]; exact Finset.mem_singleton_self _)
      () () NB (credit_r k (dstDev c k i) i) (amount_eq m c (cSd k i) 0 0) (amount_eq m (dstDev c k i) (cRv k i) 0 0) (owedL c os) rfl (W := W)
      (by rw [payload_eq, hsrc']; exact BI.Entails.refl _)
      (by rw [payload_eq, pts_written (rM k (dstDev c k i) i).view (dstDev c k i) fullShare f _ _ hv, rM_pts]; exact BI.Entails.refl _))
    $$ [Hs Hd HO Ht Ht']
  · isplitr; · iapply (records_inv m K c (cSd k i)); iexact HR
    isplitr; · iapply (records_inv m K (dstDev c k i) (cRv k i)); iexact HR
    isplitl [Hs]; · iexact Hs
    isplitl [Hd]; · iexact Hd
    isplitl [HO]; · iexact HO
    isplitl [Ht]; · iexact Ht
    isplitr; · iapply (records_rch m K c (cSd k i)); iexact HR
    isplitl [Ht']; · iexact Ht'
    iapply (records_rch m K (dstDev c k i) (cRv k i)); iexact HR
  iintro ⟨Hc, HO⟩
  iapply Hk
  isplitl [Hc Hat]
  · isplitl
    · isplitl [Hc]; · iexact Hc
      iexact Hat
    iempintro
  iexists W; iexact HO

/-- A send on any lane. -/
theorem step_snd (c : Dev nD) (l : Lane) (i : Fin 32) (os : List Op) : StepOk m K c (.snd l i) os := by
  intro k Q
  simp only [need, give, sepL_cons, sepL_nil]
  rw [A_srcAtom]
  simp only [A]
  cases l with
  | z =>
    dsimp only [step]
    exact send_one m K c .z i os (src := vcM i) (dst := oM c (f128 i.val)) (oM_eq_rM c i) (.dma (sdS .z i)) (.dma (rvS .z i)) rfl rfl
      fullShare.left (vcVal m c) (vcM_pts c _ i _) (send_z_eq m c i) k Q
  | x =>
    dsimp only [step]
    exact send_one m K c .x i os (src := rM (laneFrom .x i) c i) (dst := rM (laneFrom .x i) c i) (rM_forward .x (by decide) c i)
      (.dma (sdS .x i)) (.dma (rvS .x i)) rfl rfl fullShare.left (outVal m c) (rM_pts c _ .z i _) (send_fwd_eq m .x (by decide) c i) k Q
  | y =>
    dsimp only [step]
    exact send_one m K c .y i os (src := rM (laneFrom .y i) c i) (dst := rM (laneFrom .y i) c i) (rM_forward .y (by decide) c i)
      (.dma (sdS .y i)) (.dma (rvS .y i)) rfl rfl fullShare.right (outVal m c) (rM_pts c _ .z i _) (send_fwd_eq m .y (by decide) c i) k Q
  | g =>
    dsimp only [step]
    exact send_one m K c .g i os (src := rM (laneFrom .g i) c i) (dst := rM (laneFrom .g i) c i) (rM_forward .g (by decide) c i)
      (.dma (sdS .g i)) (.dma (rvS .g i)) rfl rfl fullShare (outVal m c) (rM_pts c _ (laneFrom .g i) i _) (send_fwd_eq m .g (by decide) c i) k Q

/-- The wait for a send's end. -/
theorem step_snw (c : Dev nD) (l : Lane) (i : Fin 32) (os : List Op) (hl : 0 < minLv os) : StepOk m K c (.snw l i) os := by
  intro k Q
  rw [owedL_skip c (.snw l i) os rfl]
  simp only [need, give, sepL_cons, sepL_nil]
  rw [A_srcAtom]
  have main : ∀ {w : TpuEff nD τ sig (Elt F) Λ₀ .tc PUnit}
      (hw : ∀ K : PUnit → sProp 𝕄, wpE (defs₀ (F := F)) 𝒱₀ (c : Thread nD τ) none Set.univ w K
        = waitSpec (c : Thread nD τ) Set.univ (semOf (cSd l i)) (amt (cSd l i)) K),
      iprop(records m K ∗ levAts L lv ∗ ((crd c (cSd l i) NB ∗ at0 c (cSd l i) 0) ∗ emp) ∗ owesE c (owedL c os))
        ⊢ iprop((((at0 c (cSd l i) 1 ∗ sdSrc m c l i ∗ emp) ∗ owesE c (owedL c os)) -∗ WP c k Q) -∗ WP c (.op w fun _ => k) Q) := by
    intro w hw
    iintro ⟨#HR, #Hlev, ⟨⟨Hc, Hat⟩, -⟩, HO⟩ Hk
    iapply (wait_one m K c (cSd l i) 0 rfl os hl hw) $$ [Hc Hat HO]
    · isplitr; · iexact HR
      isplitr; · iexact Hlev
      isplitl [Hc]; · iexact Hc
      isplitl [Hat] <;> iassumption
    iintro ⟨Hat, -, Hp, HO⟩
    have hp : (pay m c (cSd l i) 0 0 : sProp 𝕄) ⊢ sdSrc m c l i := BI.Entails.refl _
    ihave Hp := hp $$ Hp
    iapply Hk
    isplitr [HO]
    · isplitl [Hat]; · iexact Hat
      isplitl [Hp]; · iexact Hp
      iempintro
    iexact HO
  cases l <;> exact main (wpE_waitDma2_eq 𝒱₀ (c : Thread nD τ) none Set.univ)

/-- The wait for an arrival. -/
theorem step_rcv (c : Dev nD) (l : Lane) (i : Fin 32) (os : List Op) (hl : rvLv l i < minLv os) : StepOk m K c (.rcv l i) os := by
  intro k Q
  rw [owedL_skip c (.rcv l i) os rfl]
  have hg : iprop(at0 c (cRv l i) 1 ∗ oV m c (rb l c i) fullShare) ⊢ (sepL (give (.rcv l i)) (A m c) : sProp 𝕄) := by
    cases l
    · show _ ⊢ iprop(at0 c (cRv .z i) 1 ∗ oV m c (rb .z c i) fullShare.left ∗ oV m c (rb .z c i) fullShare.right ∗ emp)
      iintro ⟨Ha, Ho⟩
      ihave Ho := (oP_halves c (rb .z c i) _) $$ Ho
      icases Ho with ⟨H1, H2⟩
      isplitl [Ha]; · iexact Ha
      isplitl [H1]; · iexact H1
      isplitl [H2]; · iexact H2
      iempintro
    all_goals
      show _ ⊢ iprop(at0 c (cRv _ i) 1 ∗ oV m c (rb _ c i) fullShare ∗ emp)
      iintro ⟨Ha, Ho⟩
      isplitl [Ha]; · iexact Ha
      isplitl [Ho]; · iexact Ho
      iempintro
  have main : ∀ {w : TpuEff nD τ sig (Elt F) Λ₀ .tc PUnit}
      (hw : ∀ K : PUnit → sProp 𝕄, wpE (defs₀ (F := F)) 𝒱₀ (c : Thread nD τ) none Set.univ w K
        = waitSpec (c : Thread nD τ) Set.univ (semOf (cRv l i)) (amt (cRv l i)) K),
      iprop(records m K ∗ levAts L lv ∗ ((at0 c (cRv l i) 0 ∗ crd c (cRv l i) NB) ∗ emp) ∗ owesE c (owedL c os))
        ⊢ iprop(((sepL (give (.rcv l i)) (A m c) ∗ owesE c (owedL c os)) -∗ WP c k Q) -∗ WP c (.op w fun _ => k) Q) := by
    intro w hw
    iintro ⟨#HR, #Hlev, ⟨⟨Hat, Hc⟩, -⟩, HO⟩ Hk
    iapply (wait_one m K c (cRv l i) 0 rfl os hl hw) $$ [Hc Hat HO]
    · isplitr; · iexact HR
      isplitr; · iexact Hlev
      isplitl [Hc]; · iexact Hc
      isplitl [Hat] <;> iassumption
    iintro ⟨Hat, -, Hp, HO⟩
    have hp : (pay m c (cRv l i) 0 0 : sProp 𝕄) ⊢ oV m c (rb l c i) fullShare := BI.Entails.refl _
    ihave Hp := hp $$ Hp
    iapply Hk
    isplitr [HO]
    · iapply hg
      isplitl [Hat]; · iexact Hat
      iexact Hp
    iexact HO
  cases l <;> exact main (wpE_waitDma2_eq 𝒱₀ (c : Thread nD τ) none Set.univ)

/-- Any effect, if it waits below all that is still to be paid. -/
theorem step_ok (c : Dev nD) (o : Op) (os : List Op)
    (hl : (match waitLv o with | none => true | some w => decide (w < minLv os)) = true) : StepOk m K c o os := by
  cases o with
  | sig p => exact step_sig m K c p os
  | bar => exact step_bar m K c os (of_decide_eq_true hl)
  | ld n => exact step_ld m K c n os
  | ldw n => exact step_ldw m K c n os (of_decide_eq_true hl)
  | cast n => exact step_cast m K c n os
  | st n => exact step_st m K c n os
  | stw n => exact step_stw m K c n os (of_decide_eq_true hl)
  | snd k i => exact step_snd m K c k i os
  | rcv k i => exact step_rcv m K c k i os (of_decide_eq_true hl)
  | snw k i => exact step_snw m K c k i os (of_decide_eq_true hl)

end Cert.Kernel.Run

end
-- ==== Proof.K.BodyEq.lean ====
/-
  The printed body is the program of the plan.
-/
module

public import proofs.«01_k».proof.Proof.K.Exec

@[expose] public section

noncomputable section

namespace Cert.Kernel.Run

open Idealize.ShloMosaic Idealize.ShloMosaic.TcCoe Idealize.SL Idealize.SL.Sem Cert.Plan Cert.Kernel.Gen

variable {F : FTy → Type} [FloatOps F]

theorem body_eq (t : Fin cfg0.N) : bodyAt0 (F := F) t = bodyP := by
  chain_rfl

end Cert.Kernel.Run

end
-- ==== Proof.K.Body.lean ====
/-
  The body's plan run from the resources it starts with to those it ends with.
-/
module

public import proofs.«01_k».proof.Proof.K.Steps
public import proofs.«01_k».proof.Proof.K.BodyEq

@[expose] public section

noncomputable section

namespace Cert.Kernel.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.Plan Cert.Kernel.Gen

variable {F : FTy → Type} [FloatOps F]

local notation "𝕄" => MT nD τ sig Unit (Elt F) ℕ UU ℕ

variable (m : (ℓ : Loc nD τ sig) → Buf (Elt F) ℓ)

/-- The effects of a list, each in turn. -/
theorem exec_ok (K : Dev nD × Cell → ℕ) (c : Dev nD) (Q : PUnit → sProp 𝕄) (ops : List Op) :
    ∀ S S' : ℕ, run ops S = some S' → lvOk ops = true →
      iprop(records m K ∗ levAts L lv ∗ held (A m c) S ∗ owesE c (owedL c ops))
        ⊢ iprop(((held (A m c) S' ∗ owesE c 0) -∗ |={Set.univ}=> Q ⟨⟩) -∗ WP c (exec c ops) Q) := by
  induction ops with
  | nil =>
    intro S S' h _
    obtain rfl : S = S' := Option.some.inj h
    iintro ⟨-, -, Hh, Ho⟩ Hk
    unfold WP exec
    rw [wp_ret]
    iapply Hk
    isplitl [Hh]; · iexact Hh
    iexact Ho
  | cons o os ih =>
    intro S S' h hl
    rw [run] at h
    rw [lvOk, Bool.and_eq_true] at hl
    cases h1 : takeAll (need o) S with
    | none => rw [h1] at h; exact absurd h (by simp)
    | some S₁ =>
      rw [h1] at h
      simp only at h
      cases h2 : putAll (give o) S₁ with
      | none => rw [h2] at h; exact absurd h (by simp)
      | some S₂ =>
        rw [h2] at h
        simp only at h
        iintro ⟨#HR, #HL, Hh, Ho⟩ Hk
        ihave Hh := (held_take (A m c) (need o) S S₁ h1) $$ Hh
        icases Hh with ⟨Hn, Hh⟩
        unfold exec
        iapply (step_ok m K c o os hl.1 (exec c os) Q) $$ [Hn Ho]
        · isplitr; · iexact HR
          isplitr; · iexact HL
          isplitl [Hn]; · iexact Hn
          iexact Ho
        iintro ⟨Hg, Ho⟩
        iapply (ih S₂ S' h hl.2) $$ [Hg Hh Ho] Hk
        isplitr; · iexact HR
        isplitr; · iexact HL
        isplitl [Hg Hh]
        · iapply (held_put (A m c) (give o) S₁ S₂ h2)
          isplitl [Hg]; · iexact Hg
          iexact Hh
        iexact Ho

/-- The whole body. -/
theorem plan_ok (K : Dev nD × Cell → ℕ) (c : Dev nD) (Q : PUnit → sProp 𝕄) :
    iprop(records m K ∗ levAts L lv ∗ sepL initL (A m c) ∗ owesE c (owedL c plan))
      ⊢ iprop(((sepL finL (A m c) ∗ owesE c 0) -∗ |={Set.univ}=> Q ⟨⟩) -∗ WP c (bodyP (F := F)) Q) := by
  obtain ⟨S₀, S₁, S₂, h0, h1, h2⟩ := run_plan
  have hz : iprop(emp) ⊢ (held (A m c) 0 : sProp 𝕄) := Entails.of_eq (held_zero (A m c)).symm
  iintro ⟨#HR, #HL, Hi, Ho⟩ Hk
  unfold WP bodyP
  rw [wp_deviceId]
  iapply (exec_ok m K c Q plan S₀ S₁ h1 lvOk_plan) $$ [Hi Ho]
  · isplitr; · iexact HR
    isplitr; · iexact HL
    isplitl [Hi]
    · iapply (held_put (A m c) initL 0 S₀ h0)
      isplitl [Hi]; · iexact Hi
      iapply hz; iempintro
    iexact Ho
  iintro ⟨Hh, Ho⟩
  ihave Hh := (held_take (A m c) finL S₁ S₂ h2) $$ Hh
  icases Hh with ⟨Hh, -⟩
  iapply Hk
  isplitl [Hh]; · iexact Hh
  iexact Ho

end Cert.Kernel.Run

end
-- ==== Proof.K.Mem.lean ====
/-
  The buffers as their blocks.
-/
module

public import proofs.«01_k».proof.Proof.K.Rules
public import Idealize.ShloMosaic.Lib.Ring

@[expose] public section

noncomputable section

namespace Cert.Kernel.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.Plan Cert.Kernel.Gen

variable {F : FTy → Type} [FloatOps F]

local notation "𝕄" => MT nD τ sig Unit (Elt F) ℕ UU ℕ

variable (m : (ℓ : Loc nD τ sig) → Buf (Elt F) ℓ)

section Split
variable (c : Dev nD)

/-- The argument is its blocks, in the order they are loaded. -/
theorem x_blocks : (((c : Thread nD τ).loc main_arg0) ↦{fullShare} xVal m c : sProp 𝕄)
    = bigSep Finset.univ fun n : Fin 128 => xP m c (xb c n) := by
  rw [Ring.pointsTo_blocks xSet xSet_disj xSet_cover,
    bigSep_univ_equiv (Equiv.ofBijective (xb c) (Finite.injective_iff_bijective.mp (xb_inj c)))]
  rfl

theorem blockNo_bij : Function.Bijective (blockNo c) :=
  (Fintype.bijective_iff_injective_and_card _).mpr ⟨blockNo_inj c, by
    rw [Fintype.card_sum, Fintype.card_prod, Fintype.card_fin, Fintype.card_fin, Fintype.card_fin]; rfl⟩

/-- The result is its blocks: those the device writes, those that arrive. -/
theorem o_blocks (f : Buf (Elt F) ((c : Thread nD τ).loc main_v1)) : (((c : Thread nD τ).loc main_v1) ↦{fullShare} f : sProp 𝕄)
    = iprop((bigSep Finset.univ fun n : Fin 128 => oP c (ob c n) fullShare f)
      ∗ bigSep Finset.univ fun a : Lane × Fin 32 => oP c (rb a.1 c a.2) fullShare f) := by
  rw [Ring.pointsTo_blocks oSet oSet_disj oSet_cover, bigSep_univ_equiv (Equiv.ofBijective _ (blockNo_bij c)), bigSep_univ_sum]
  rfl

/-- The blocks that arrive, lent to the neighbours that write them. -/
theorem o_lend (f : Buf (Elt F) ((c : Thread nD τ).loc main_v1)) :
    (bigSep Finset.univ fun a : Lane × Fin 32 => oP c (rb a.1 c a.2) fullShare f) ⊢ (bigSep Finset.univ fun p : Fin 3 => lend c p : sProp 𝕄) := by
  rw [sepL_lanes, ← sepL_three (fun a : Lane × Fin 32 => laneTo a.1 a.2), bigSep_univ_eq_bigSepL [0, 1, 2] (by decide) (by decide),
    bigSepL_cons_cons, bigSepL_cons_cons, bigSepL_singleton]
  unfold lend
  have h : ∀ p : Fin 3, (sepL (lanes.filter fun a => laneTo a.1 a.2 = p) fun a => oP c (rb a.1 c a.2) fullShare f)
      ⊢ (sepL (lanes.filter fun a => laneTo a.1 a.2 = p) fun a => iprop(∃ f, oP c (rb a.1 c a.2) fullShare f) : sProp 𝕄) := fun p =>
    sepL_mono _ _ _ fun a => by iintro H; iexists f; iexact H
  exact BIClass.sep_mono (h 0) (BIClass.sep_mono (h 1) (h 2))

/-- Blocks on every lane, lane by lane. -/
theorem lanes_four (f : Lane × Fin 32 → sProp 𝕄) : bigSep Finset.univ f
    = iprop((bigSep Finset.univ fun i => f (.z, i)) ∗ (bigSep Finset.univ fun i => f (.x, i)) ∗ (bigSep Finset.univ fun i => f (.y, i))
      ∗ bigSep Finset.univ fun i => f (.g, i)) := by
  rw [bigSep_univ_prod, bigSep_univ_eq_bigSepL [.z, .x, .y, .g] (by decide) (by decide),
    bigSepL_cons_cons, bigSepL_cons_cons, bigSepL_cons_cons, bigSepL_singleton]
  rfl

/-! ## The scratch buffers as slots -/

omit [FloatOps F] in
theorem vx_some (s) (f : Buf (Elt F) ((c : Thread nD τ).loc cc0_scratch0)) :
    (((c : Thread nD τ).loc cc0_scratch0) ↦[vxSet s]{fullShare} f : sProp 𝕄) ⊢ iprop(∃ f, vxP c s f) := by
  unfold vxP; iintro H; iexists f; iexact H
theorem vx_out : iprop(∃ f : Buf (Elt F) ((c : Thread nD τ).loc cc0_scratch0), ((c : Thread nD τ).loc cc0_scratch0) ↦{fullShare} f)
    ⊢ (bigSep Finset.univ fun s : Fin 8 => iprop(∃ f, vxP c s f) : sProp 𝕄) := by
  iintro ⟨%f, H⟩
  ihave H := (Entails.of_eq (Ring.pointsTo_blocks vxSet vxSet_disj vxSet_cover f)) $$ H
  have h : (bigSep Finset.univ fun s : Fin 8 => (((c : Thread nD τ).loc cc0_scratch0) ↦[vxSet s]{fullShare} f))
      ⊢ (bigSep Finset.univ fun s : Fin 8 => iprop(∃ f, vxP c s f) : sProp 𝕄) :=
    bigSep_mono fun s _ => vx_some c s f
  iapply h; iexact H
include m in
theorem vx_in : (bigSep Finset.univ fun s : Fin 8 => iprop(∃ f, vxP c s f) : sProp 𝕄)
    ⊢ iprop(∃ f : Buf (Elt F) ((c : Thread nD τ).loc cc0_scratch0), ((c : Thread nD τ).loc cc0_scratch0) ↦{fullShare} f) := by
  unfold vxP
  exact Ring.pointsTo_blocks_join_exists (ℓ := (c : Thread nD τ).loc cc0_scratch0) vxSet vxSet_disj vxSet_cover (m ((c : Thread nD τ).loc cc0_scratch0))

omit [FloatOps F] in
theorem vc_some (s) (f : Buf (Elt F) ((c : Thread nD τ).loc cc0_scratch1)) :
    (((c : Thread nD τ).loc cc0_scratch1) ↦[vcSet s]{fullShare} f : sProp 𝕄) ⊢ iprop(∃ f, vcP c s fullShare f) := by
  unfold vcP; iintro H; iexists f; iexact H
theorem vc_out : iprop(∃ f : Buf (Elt F) ((c : Thread nD τ).loc cc0_scratch1), ((c : Thread nD τ).loc cc0_scratch1) ↦{fullShare} f)
    ⊢ (bigSep Finset.univ fun s : Fin 32 => iprop(∃ f, vcP c s fullShare f) : sProp 𝕄) := by
  iintro ⟨%f, H⟩
  ihave H := (Entails.of_eq (Ring.pointsTo_blocks vcSet vcSet_disj vcSet_cover f)) $$ H
  have h : (bigSep Finset.univ fun s : Fin 32 => (((c : Thread nD τ).loc cc0_scratch1) ↦[vcSet s]{fullShare} f))
      ⊢ (bigSep Finset.univ fun s : Fin 32 => iprop(∃ f, vcP c s fullShare f) : sProp 𝕄) :=
    bigSep_mono fun s _ => vc_some c s f
  iapply h; iexact H
include m in
theorem vc_in : (bigSep Finset.univ fun s : Fin 32 => iprop(∃ f, vcP c s fullShare f) : sProp 𝕄)
    ⊢ iprop(∃ f : Buf (Elt F) ((c : Thread nD τ).loc cc0_scratch1), ((c : Thread nD τ).loc cc0_scratch1) ↦{fullShare} f) := by
  unfold vcP
  exact Ring.pointsTo_blocks_join_exists (ℓ := (c : Thread nD τ).loc cc0_scratch1) vcSet vcSet_disj vcSet_cover (m ((c : Thread nD τ).loc cc0_scratch1))

omit [FloatOps F] in
theorem vk_some (s) (f : Buf (Elt F) ((c : Thread nD τ).loc cc0_scratch2)) :
    (((c : Thread nD τ).loc cc0_scratch2) ↦[vkSet s]{fullShare} f : sProp 𝕄) ⊢ iprop(∃ f, vkP c s f) := by
  unfold vkP; iintro H; iexists f; iexact H
theorem vk_out : iprop(∃ f : Buf (Elt F) ((c : Thread nD τ).loc cc0_scratch2), ((c : Thread nD τ).loc cc0_scratch2) ↦{fullShare} f)
    ⊢ (bigSep Finset.univ fun s : Fin 2 => iprop(∃ f, vkP c s f) : sProp 𝕄) := by
  iintro ⟨%f, H⟩
  ihave H := (Entails.of_eq (Ring.pointsTo_blocks vkSet vkSet_disj vkSet_cover f)) $$ H
  have h : (bigSep Finset.univ fun s : Fin 2 => (((c : Thread nD τ).loc cc0_scratch2) ↦[vkSet s]{fullShare} f))
      ⊢ (bigSep Finset.univ fun s : Fin 2 => iprop(∃ f, vkP c s f) : sProp 𝕄) :=
    bigSep_mono fun s _ => vk_some c s f
  iapply h; iexact H
include m in
theorem vk_in : (bigSep Finset.univ fun s : Fin 2 => iprop(∃ f, vkP c s f) : sProp 𝕄)
    ⊢ iprop(∃ f : Buf (Elt F) ((c : Thread nD τ).loc cc0_scratch2), ((c : Thread nD τ).loc cc0_scratch2) ↦{fullShare} f) := by
  unfold vkP
  exact Ring.pointsTo_blocks_join_exists (ℓ := (c : Thread nD τ).loc cc0_scratch2) vkSet vkSet_disj vkSet_cover (m ((c : Thread nD τ).loc cc0_scratch2))
end Split

end Cert.Kernel.Run

end
-- ==== Proof.K.Start.lean ====
/-
  What a device starts with and ends with, and the body from the one to the other.
-/
module

public import proofs.«01_k».proof.Proof.K.Body
public import proofs.«01_k».proof.Proof.K.Mem

@[expose] public section

noncomputable section

namespace Cert.Kernel.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.Plan Cert.Kernel.Gen

variable {F : FTy → Type} [FloatOps F]

local notation "𝕄" => MT nD τ sig Unit (Elt F) ℕ UU ℕ

variable (m : (ℓ : Loc nD τ sig) → Buf (Elt F) ℓ)

/-! ## Everything over the cells -/

theorem over_cells (f : Cell → sProp 𝕄) : bigSep Finset.univ f
    = iprop(f cBar ∗ (bigSep Finset.univ fun s => f (cLd s)) ∗ (bigSep Finset.univ fun n => f (cSt n))
      ∗ (bigSep Finset.univ fun a : Lane × Fin 32 => f (cSd a.1 a.2)) ∗ bigSep Finset.univ fun a : Lane × Fin 32 => f (cRv a.1 a.2)) := by
  rw [bigSep_univ_sum, bigSep_univ_sum, bigSep_univ_sum, bigSep_univ_sum, show (Finset.univ : Finset Unit) = {()} from rfl, bigSep_singleton]
  rfl

/-! ## The tokens -/

/-- The tokens a device starts with: of its loads, its stores, its sends, of the arrivals it causes, of its signals. -/
abbrev TI : Type := Fin 128 ⊕ Fin 128 ⊕ (Lane × Fin 32) ⊕ (Lane × Fin 32) ⊕ Fin 3

def tokOf (c : Dev nD) : TI → GSem nD τ sig × ℕ × Fin 3
  | .inl n => (cel c (cLd (slot8 n)), n.val / 8, 0)
  | .inr (.inl n) => (cel c (cSt n), 0, 0)
  | .inr (.inr (.inl a)) => (cel c (cSd a.1 a.2), 0, 0)
  | .inr (.inr (.inr (.inl a))) => (cel (dstDev c a.1 a.2) (cRv a.1 a.2), 0, 0)
  | .inr (.inr (.inr (.inr p))) => (cel (peer p c) cBar, 0, p)

abbrev tokAt (x : GSem nD τ sig × ℕ × Fin 3) : sProp 𝕄 := dutyTok ER x.1 x.2.1 x.2.2

theorem over_toks (c : Dev nD) : (bigSep Finset.univ fun j => tokAt (tokOf c j) : sProp 𝕄)
    = iprop((bigSep Finset.univ fun n : Fin 128 => tok c (cLd (slot8 n)) (n.val / 8) 0) ∗ (bigSep Finset.univ fun n : Fin 128 => tok c (cSt n) 0 0)
      ∗ (bigSep Finset.univ fun a : Lane × Fin 32 => tok c (cSd a.1 a.2) 0 0)
      ∗ (bigSep Finset.univ fun a : Lane × Fin 32 => tok (dstDev c a.1 a.2) (cRv a.1 a.2) 0 0)
      ∗ bigSep Finset.univ fun p : Fin 3 => tok (peer p c) cBar 0 p) := by
  rw [bigSep_univ_sum, bigSep_univ_sum, bigSep_univ_sum, bigSep_univ_sum]
  rfl

/-! ## Start and end -/

/-- The cells' records and what of them is a device's own. -/
def ghost (c : Dev nD) : sProp 𝕄 :=
  iprop((∃ K, records m K) ∗ (bigSep Finset.univ fun κ : Cell => at0 c κ 0) ∗ bigSep Finset.univ fun j => tokAt (tokOf c j))

/-- What it is to be paid. -/
def dueTo (c : Dev nD) : sProp 𝕄 :=
  iprop(crd c cBar 3 ∗ bigSep Finset.univ fun a : Lane × Fin 32 => crd c (cRv a.1 a.2) NB)

def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def start (c : Dev nD) : sProp 𝕄 :=
  iprop(ghost m c ∗ dueTo c ∗ levAts L lv ∗ (((c : Thread nD τ).loc main_arg0) ↦{fullShare} xVal m c)
    ∗ (((c : Thread nD τ).loc main_v1) ↦{fullShare} m ((c : Thread nD τ).loc main_v1)))

/-- The results: the argument unchanged, the result's contents. -/
def done (c : Dev nD) : sProp 𝕄 :=
  iprop((((c : Thread nD τ).loc main_arg0) ↦{fullShare} xVal m c) ∗ (((c : Thread nD τ).loc main_v1) ↦{fullShare} outVal m c))

def Φ₀ (c : Dev nD) : sProp 𝕄 := iprop(start m c ∗ scr c)
def Φ₁ (c : Dev nD) : sProp 𝕄 := iprop(done m c ∗ (bigSep Finset.univ fun κ : Cell => semVal (cel c κ) 0) ∗ scr c)

/-! ## The names it starts with -/

theorem slotE_lo (s : Fin 8) : slotE ⟨s.val, by omega⟩ = s := Fin.ext (Nat.mod_eq_of_lt s.isLt)
theorem slotE_hi (s : Fin 8) : slotE ⟨128 + s.val, by omega⟩ = s := Fin.ext (by show (128 + s.val) % 8 = s.val; omega)

theorem vxE_lo (c : Dev nD) (s : Fin 8) : A m c (.vxE ⟨s.val, by omega⟩) = iprop(at0 c (cLd s) 0 ∗ rch c (cLd s) 0 ∗ ∃ f, vxP c s f) := by
  simp only [A, slotE_lo, show s.val / 8 = 0 from Nat.div_eq_of_lt s.isLt]
theorem vxE_hi (c : Dev nD) (s : Fin 8) :
    A m c (.vxE ⟨128 + s.val, by omega⟩) = iprop(at0 c (cLd s) 16 ∗ rch c (cLd s) 16 ∗ ∃ f, vxP c s f) := by
  simp only [A, slotE_hi, show (128 + s.val) / 8 = 16 by omega]

theorem initL_eq (c : Dev nD) : sepL initL (A m c)
    = iprop(((((((((bigSep Finset.univ fun n => A m c (.ldI n)) ∗ bigSep Finset.univ fun n => A m c (.stI n))
      ∗ bigSep Finset.univ fun s : Fin 8 => A m c (.vxE ⟨s.val, by omega⟩)) ∗ bigSep Finset.univ fun i => A m c (.vcE i))
      ∗ bigSep Finset.univ fun s => A m c (.vkE s)) ∗ bigSep Finset.univ fun a : Lane × Fin 32 => A m c (.sdI a.1 a.2))
      ∗ bigSep Finset.univ fun a : Lane × Fin 32 => A m c (.rvI a.1 a.2)) ∗ bigSep Finset.univ fun p => A m c (.sg p)) ∗ A m c .barI ∗ emp) := by
  unfold initL
  simp only [sepL_append, sepL_map, sepL_finRange, sepL_lanes, sepL_cons, sepL_nil]

theorem finL_eq (c : Dev nD) : sepL finL (A m c)
    = iprop((((((((((((((bigSep Finset.univ fun n => A m c (.ldD n)) ∗ bigSep Finset.univ fun n => A m c (.stD n))
      ∗ bigSep Finset.univ fun s : Fin 8 => A m c (.vxE ⟨128 + s.val, by omega⟩)) ∗ bigSep Finset.univ fun i => A m c (.vcL i))
      ∗ bigSep Finset.univ fun i => A m c (.vcR i)) ∗ bigSep Finset.univ fun s => A m c (.vkE s))
      ∗ bigSep Finset.univ fun a : Lane × Fin 32 => A m c (.sdD a.1 a.2)) ∗ bigSep Finset.univ fun a : Lane × Fin 32 => A m c (.rvD a.1 a.2))
      ∗ bigSep Finset.univ fun i => A m c (.zL i)) ∗ bigSep Finset.univ fun i => A m c (.zR i)) ∗ bigSep Finset.univ fun i => A m c (.rcF .x i))
      ∗ bigSep Finset.univ fun i => A m c (.rcF .y i)) ∗ bigSep Finset.univ fun i => A m c (.rcF .g i)) ∗ A m c .barD ∗ emp) := by
  unfold finL
  simp only [sepL_append, sepL_map, sepL_finRange, sepL_lanes, sepL_cons, sepL_nil]

theorem over_rch (K : Dev nD × Cell → ℕ) (c : Dev nD) : records m K ⊢ (bigSep Finset.univ fun s : Fin 8 => rch c (cLd s) 0 : sProp 𝕄) :=
  (BI.bigSep_of_persistent Finset.univ _).trans (bigSep_mono fun s _ => records_rch m K c (cLd s))

theorem start_names (K : Dev nD × Cell → ℕ) (c : Dev nD) :
    iprop(records m K ∗ (bigSep Finset.univ fun κ : Cell => at0 c κ 0) ∗ (bigSep Finset.univ fun j => tokAt (tokOf c j)) ∗ dueTo c
        ∗ (((c : Thread nD τ).loc main_arg0) ↦{fullShare} xVal m c)
        ∗ (((c : Thread nD τ).loc main_v1) ↦{fullShare} m ((c : Thread nD τ).loc main_v1)) ∗ scr c)
      ⊢ sepL initL (A m c) := by
  have hst : iprop((bigSep Finset.univ fun n : Fin 128 => at0 c (cSt n) 0) ∗ (bigSep Finset.univ fun n : Fin 128 => tok c (cSt n) 0 0)
      ∗ bigSep Finset.univ fun n : Fin 128 => oP c (ob c n) fullShare (m ((c : Thread nD τ).loc main_v1)))
      ⊢ (bigSep Finset.univ fun n => A m c (.stI n) : sProp 𝕄) := by
    rw [← bigSep_sep', ← bigSep_sep']
    have h : ∀ n, iprop(at0 c (cSt n) 0 ∗ tok c (cSt n) 0 0 ∗ oP c (ob c n) fullShare (m ((c : Thread nD τ).loc main_v1)))
        ⊢ (A m c (.stI n) : sProp 𝕄) := fun n => by
      simp only [A]
      iintro ⟨H1, H2, H3⟩
      isplitl [H1]; · iexact H1
      isplitl [H2]; · iexact H2
      iexists _; iexact H3
    exact bigSep_mono fun n _ => h n
  rw [initL_eq, over_cells, over_toks, x_blocks, o_blocks]
  simp only [vxE_lo]
  unfold dueTo scr
  iintro ⟨#HR, ⟨HaB, HaL, HaT, HaS, HaR⟩, ⟨HtL, HtT, HtS, HtR, HtB⟩, ⟨HcB, HcR⟩, Hx, ⟨Ho, Hol⟩, Hv0, Hv1, Hv2⟩
  ihave Hol := (o_lend c _) $$ Hol
  ihave Hv0 := (vx_out c) $$ Hv0
  ihave Hv1 := (vc_out c) $$ Hv1
  ihave Hv2 := (vk_out c) $$ Hv2
  ihave Hrc := (over_rch m K c) $$ HR
  ihave HT := hst $$ [HaT HtT Ho]
  · isplitl [HaT]; · iexact HaT
    isplitl [HtT]; · iexact HtT
    iexact Ho
  simp only [A, bigSep_sep']
  isplitr [HcB HaB]
  · isplitr [HtB Hol]
    · isplitr [HaR HcR]
      · isplitr [HaS HtS HtR]
        · isplitr [Hv2]
          · isplitr [Hv1]
            · isplitr [HaL Hv0]
              · isplitr [HT]
                · isplitl [HtL]; · iexact HtL
                  iexact Hx
                iexact HT
              isplitl [HaL]; · iexact HaL
              isplitr [Hv0]; · iexact Hrc
              iexact Hv0
            iexact Hv1
          iexact Hv2
        isplitl [HaS]; · iexact HaS
        isplitl [HtS]; · iexact HtS
        iexact HtR
      isplitl [HaR]; · iexact HaR
      iexact HcR
    isplitl [HtB]; · iexact HtB
    iexact Hol
  isplitl [HcB HaB]
  · isplitl [HaB]; · iexact HaB
    iexact HcB
  iempintro

end Cert.Kernel.Run

end
-- ==== Proof.K.Finish.lean ====
/-
  The names a device ends with: its semaphores at zero and its results; and the body.
-/
module

public import proofs.«01_k».proof.Proof.K.Start

@[expose] public section

noncomputable section

namespace Cert.Kernel.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.Plan Cert.Kernel.Gen

variable {F : FTy → Type} [FloatOps F]

local notation "𝕄" => MT nD τ sig Unit (Elt F) ℕ UU ℕ

variable (m : (ℓ : Loc nD τ sig) → Buf (Elt F) ℓ)

/-- A cell past its last round gives its semaphore back, at zero. -/
theorem close_one (K : Dev nD × Cell → ℕ) (c : Dev nD) (κ : Cell) :
    iprop(records m K ∗ at0 c κ (lastRd κ)) ⊢ iprop(|={Set.univ}=> (semVal (cel c κ) 0 : sProp 𝕄)) := by
  iintro ⟨#HR, Ha⟩
  imod (Rounds.cell_close ER (Rd m) (κ := K (c, κ)) (Set.mem_univ _) (fun h => h) (R := lastRd κ)
    (fun r hr => by rw [duties_eq]; exact dut_last κ r hr)) $$ [Ha] with Hz
  · isplitr; · iapply (records_inv m K c κ); iexact HR
    iexact Ha
  imodintro; iexact Hz

theorem close_all (K : Dev nD × Cell → ℕ) (c : Dev nD) :
    iprop(records m K ∗ bigSep Finset.univ fun κ : Cell => at0 c κ (lastRd κ))
      ⊢ iprop(|={Set.univ}=> (bigSep Finset.univ fun κ : Cell => semVal (cel c κ) 0 : sProp 𝕄)) := by
  have h : iprop(records m K ∗ bigSep Finset.univ fun κ : Cell => at0 c κ (lastRd κ))
      ⊢ (bigSep Finset.univ fun κ : Cell => iprop(records m K ∗ at0 c κ (lastRd κ)) : sProp 𝕄) := by
    rw [bigSep_sep']
    exact BIClass.sep_mono (BI.bigSep_of_persistent Finset.univ _) .refl
  exact (h.trans (bigSep_mono fun κ _ => close_one m K c κ)).trans (bigSep_fupd _ _)

theorem end_names (K : Dev nD × Cell → ℕ) (c : Dev nD) :
    iprop(records m K ∗ sepL finL (A m c)) ⊢ iprop(|={Set.univ}=> Φ₁ m c) := by
  have hz : iprop((bigSep Finset.univ fun i : Fin 32 => oV m c (rb .z c i) fullShare.left)
      ∗ bigSep Finset.univ fun i : Fin 32 => oV m c (rb .z c i) fullShare.right)
      ⊢ (bigSep Finset.univ fun i : Fin 32 => oV m c (rb .z c i) fullShare : sProp 𝕄) := by
    rw [← bigSep_sep']; exact bigSep_mono fun i _ => oP_whole c (rb .z c i) _
  have hc : iprop((bigSep Finset.univ fun i : Fin 32 => vcP c i fullShare.left (vcVal m c))
      ∗ bigSep Finset.univ fun i : Fin 32 => vcP c i fullShare.right (vcVal m c))
      ⊢ (bigSep Finset.univ fun i : Fin 32 => iprop(∃ f, vcP c i fullShare f) : sProp 𝕄) := by
    have h : ∀ i, iprop(vcP c i fullShare.left (vcVal m c) ∗ vcP c i fullShare.right (vcVal m c))
        ⊢ (iprop(∃ f, vcP c i fullShare f) : sProp 𝕄) := fun i => by
      iintro H; iexists _; iapply (vcP_whole c i (vcVal m c)); iexact H
    rw [← bigSep_sep']; exact bigSep_mono fun i _ => h i
  rw [finL_eq]
  simp only [vxE_hi]
  simp only [A, bigSep_sep']
  iintro ⟨#HR, ⟨⟨⟨⟨⟨⟨⟨⟨⟨⟨⟨⟨⟨Hx, HaT, Ho⟩, HaL, -, Hv0⟩, HcL⟩, HcR⟩, Hv2⟩, HaS⟩, HaR⟩, HzL⟩, HzR⟩, Hrx⟩, Hry⟩, Hrg⟩, HaB, -⟩⟩
  ihave Hz := hz $$ [HzL HzR]
  · isplitl [HzL]; · iexact HzL
    iexact HzR
  ihave Hv1 := hc $$ [HcL HcR]
  · isplitl [HcL]; · iexact HcL
    iexact HcR
  ihave Hv0 := (vx_in m c) $$ Hv0
  ihave Hv1 := (vc_in m c) $$ Hv1
  ihave Hv2 := (vk_in m c) $$ Hv2
  have hcells := Entails.of_eq (over_cells (F := F) fun κ : Cell => at0 c κ (lastRd κ)).symm
  ihave Ha := hcells $$ [HaB HaL HaT HaS HaR]
  · isplitl [HaB]; · iexact HaB
    isplitl [HaL]; · iexact HaL
    isplitl [HaT]; · iexact HaT
    isplitl [HaS]; · iexact HaS
    iexact HaR
  imod (close_all m K c) $$ [Ha] with Ha
  · isplitr; · iexact HR
    iexact Ha
  imodintro
  unfold Φ₁ done scr
  rw [x_blocks, o_blocks, lanes_four]
  isplitl [Hx Ho Hz Hrx Hry Hrg]
  · isplitl [Hx]; · iexact Hx
    isplitl [Ho]; · iexact Ho
    isplitl [Hz]; · iexact Hz
    isplitl [Hrx]; · iexact Hrx
    isplitl [Hry]; · iexact Hry
    iexact Hrg
  isplitl [Ha]; · iexact Ha
  isplitl [Hv0]; · iexact Hv0
  isplitl [Hv1]; · iexact Hv1
  iexact Hv2

/-- The body, from what a device starts with to what it ends with. -/
theorem body_ok (c : Dev nD) (Q : PUnit → sProp 𝕄) :
    iprop(Φ₀ m c ∗ owesE c (owedL c plan)) ⊢ iprop(((Φ₁ m c ∗ owesE c 0) -∗ Q ⟨⟩) -∗ WP c (bodyP (F := F)) Q) := by
  unfold Φ₀ start ghost
  iintro ⟨⟨⟨⟨⟨%K, #HR⟩, Ha, Ht⟩, Hd, #HL, Hx, Ho⟩, Hs⟩, HO⟩ Hk
  iapply (plan_ok m K c Q) $$ [Ha Ht Hd Hx Ho Hs HO]
  · isplitr; · iexact HR
    isplitr; · iexact HL
    isplitr [HO]
    · iapply (start_names m K c)
      isplitr; · iexact HR
      isplitl [Ha]; · iexact Ha
      isplitl [Ht]; · iexact Ht
      isplitl [Hd]; · iexact Hd
      isplitl [Hx]; · iexact Hx
      isplitl [Ho]; · iexact Ho
      iexact Hs
    iexact HO
  iintro ⟨He, HO⟩
  imod (end_names m K c) $$ [He] with He
  · isplitr; · iexact HR
    iexact He
  imodintro
  iapply Hk
  isplitl [He]; · iexact He
  iexact HO

end Cert.Kernel.Run

end
-- ==== Proof.K.Alloc.lean ====
/-
  The cells and tokens made at launch, and dealt to the devices.
-/
module

public import proofs.«01_k».proof.Proof.K.Finish

@[expose] public section

noncomputable section

namespace Cert.Kernel.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.Plan Cert.Kernel.Gen

variable {F : FTy → Type} [FloatOps F]

local notation "𝕄" => MT nD τ sig Unit (Elt F) ℕ UU ℕ

variable (m : (ℓ : Loc nD τ sig) → Buf (Elt F) ℓ)

/-! ## The cells and the tokens -/

def cellPt (a : Dev nD × Cell) : GSem nD τ sig := cel a.1 a.2
theorem cellPt_inj : Function.Injective cellPt := fun a a' h => by
  obtain ⟨h1, h2⟩ := cel_inj h; exact Prod.ext h1 h2
def allCells : Finset (GSem nD τ sig) := Finset.univ.map ⟨cellPt, cellPt_inj⟩

theorem peer_inj (p : Fin 3) {c c' : Dev nD} (h : peer p c = peer p c') : c = c' := by
  rw [← peer_invol p c, h, peer_invol]

def tokPt (a : Dev nD × TI) : GSem nD τ sig × ℕ × Fin 3 := tokOf a.1 a.2
theorem tokPt_inj : Function.Injective tokPt := by
  rintro ⟨c, n | n | a | a | p⟩ ⟨c', n' | n' | a' | a' | p'⟩ h <;>
    obtain ⟨hc, hκ⟩ := cel_inj (congrArg Prod.fst h) <;> first
    | (exfalso; simp at hκ; done) | skip
  · have h1 : n.val % 8 = n'.val % 8 := congrArg Fin.val (Sum.inl.inj (Sum.inr.inj hκ))
    have h2 : n.val / 8 = n'.val / 8 := congrArg (fun x : GSem nD τ sig × ℕ × Fin 3 => x.2.1) h
    have : n = n' := Fin.ext (by omega)
    subst this; obtain rfl : c = c' := hc; rfl
  · have : n = n' := Sum.inl.inj (Sum.inr.inj (Sum.inr.inj hκ))
    subst this; obtain rfl : c = c' := hc; rfl
  · have : a = a' := Sum.inl.inj (Sum.inr.inj (Sum.inr.inj (Sum.inr.inj hκ)))
    subst this; obtain rfl : c = c' := hc; rfl
  · have : a = a' := Sum.inr.inj (Sum.inr.inj (Sum.inr.inj (Sum.inr.inj hκ)))
    subst this
    have := peer_inj _ hc
    subst this; rfl
  · have : p = p' := congrArg (fun x : GSem nD τ sig × ℕ × Fin 3 => x.2.2) h
    subst this
    have := peer_inj _ hc
    subst this; rfl
def allToks : Finset (GSem nD τ sig × ℕ × Fin 3) := Finset.univ.map ⟨tokPt, tokPt_inj⟩

def u₀ : UU := (initOf (Pipeline.cells cfgs cellOf_inj) (Pipeline.launchToks cfgs cellOf_inj), initOf allCells allToks)

/-! ## What a device is dealt -/

def pos0 (c : Dev nD) : sProp 𝕄 := iprop((bigSep Finset.univ fun κ : Cell => at0 c κ 0) ∗ bigSep Finset.univ fun κ : Cell => rch c κ 0)
def toks (c : Dev nD) : sProp 𝕄 := bigSep Finset.univ fun j => tokAt (tokOf c j)

def G (c : Dev nD) : sProp 𝕄 :=
  iprop((bigSep Finset.univ fun κ : Cell => roundState ER (Rd m) (cel c κ) 0) ∗ pos0 c ∗ toks c)

theorem deal : BI.own (ER (initOf allCells allToks)) ⊢ (|==> bigSep Finset.univ (G m) : sProp 𝕄) := by
  have hX (Φ : GSem nD τ sig → sProp 𝕄) : bigSep allCells Φ
      = bigSep Finset.univ fun c : Dev nD => bigSep Finset.univ fun κ : Cell => Φ (cel c κ) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G pos0; simp only [bigSep_sep']
  isplitl [Hst]; · iexact Hst
  isplitl [Hat Hr]
  · isplitl [Hat]; · iexact Hat
    iexact Hr
  iexact Htok

/-! ## The semaphores -/

abbrev osem : DCell → SemLoc sig := fun d => .dma (dsem d)

theorem ownSemFacts : Pipeline.OwnSemFacts cfg0.spec osem where
  isScoped := fun d => by
    have h : ∀ q : DmaSem sig, (SemLoc.dma q).isScoped .tc = true := by decide +kernel
    exact h _
  inj := fun d d' h => dsem_inj (SemLoc.dma.inj h)
  disj := fun _ w => w.elim0

abbrev ownS (c : Dev nD) : sProp 𝕄 := Pipeline.ownSems0 (Ix := Unit) (Name := ℕ) (U := UU) (Lvl := ℕ) (Val := Elt F) (τ := τ) osem c

theorem unscopedSems0_eq (c : Dev nD) : (unscopedSems0 c : sProp 𝕄) = semVal (cel c cBar) 0 := by
  unfold unscopedSems0
  rw [bigSep_eq_bigSepL_of_eq [SemLoc.reg barS] (by decide +kernel) (by decide)]; rfl

theorem sems_eq (c : Dev nD) : iprop(unscopedSems0 c ∗ ownS c) = (bigSep Finset.univ fun κ : Cell => semVal (cel c κ) 0 : sProp 𝕄) := by
  rw [unscopedSems0_eq, bigSep_univ_sum, show (Finset.univ : Finset Unit) = {()} from rfl, bigSep_singleton]
  rfl

/-! ## The invariants -/

theorem core_alloc (c : Dev nD) :
    iprop(ownS c ∗ unscopedSems0 c ∗ G m c)
      ⊢ |={Set.univ}=> iprop((bigSep Finset.univ fun κ : Cell => iprop(∃ k : ℕ, cellInv ER (Rd m) k (cel c κ))) ∗ pos0 c ∗ toks c) := by
  have h : iprop((bigSep Finset.univ fun κ : Cell => semVal (cel c κ) 0) ∗ bigSep Finset.univ fun κ : Cell => roundState ER (Rd m) (cel c κ) 0)
      ⊢ (|={Set.univ}=> bigSep Finset.univ fun κ : Cell => iprop(∃ k : ℕ, cellInv ER (Rd m) k (cel c κ)) : sProp 𝕄) := by
    rw [← bigSep_sep']
    exact (bigSep_mono fun κ _ => (Rounds.body_intro ER (Rd m) (cel c κ)).trans inv_alloc).trans (bigSep_fupd _ _)
  unfold G
  iintro ⟨Hos, Hus, Hst, Hat, Htok⟩
  ihave Hv := (Entails.of_eq (sems_eq (F := F) c)) $$ [Hos Hus]
  · isplitl [Hus]; · iexact Hus
    iexact Hos
  imod h $$ [Hv Hst] with Hinv
  · isplitl [Hv]; · iexact Hv
    iexact Hst
  imodintro
  isplitl [Hinv]; · iexact Hinv
  isplitl [Hat]; · iexact Hat
  iexact Htok

def own0 (c : Dev nD) : sProp 𝕄 := iprop((bigSep Finset.univ fun κ : Cell => at0 c κ 0) ∗ toks c)

theorem ghost_intro (K : Dev nD × Cell → ℕ) (c : Dev nD) : iprop(records m K ∗ own0 c) ⊢ ghost m c := by
  unfold own0 ghost toks
  iintro ⟨HR, Ha, Ht⟩
  isplitl [HR]; · iexists K; iexact HR
  isplitl [Ha]; · iexact Ha
  iexact Ht

theorem regroup :
    (bigSep Finset.univ fun c : Dev nD => iprop((bigSep Finset.univ fun κ : Cell => iprop(∃ k : ℕ, cellInv ER (Rd m) k (cel c κ))) ∗ pos0 c ∗ toks c) : sProp 𝕄)
      ⊢ bigSep Finset.univ (ghost m) := by
  have hall (K : Dev nD × Cell → ℕ) : iprop(records m K ∗ bigSep Finset.univ fun c : Dev nD => own0 c)
      ⊢ (bigSep Finset.univ (ghost m) : sProp 𝕄) :=
    (sep_mono_left (BI.bigSep_of_persistent Finset.univ _)).trans (by rw [← bigSep_sep']; exact bigSep_mono fun c _ => ghost_intro m K c)
  unfold pos0
  rw [bigSep_sep', bigSep_sep', ← bigSep_univ_prod (fun a : Dev nD × Cell => iprop(∃ k : ℕ, cellInv ER (Rd m) k (cel a.1 a.2))),
    bigSep_sep', ← bigSep_univ_prod (fun a : Dev nD × Cell => (reached ER (cel a.1 a.2) 0 : sProp 𝕄))]
  iintro ⟨HI, ⟨Hat, #HR⟩, Htok⟩
  ihave HK := (BI.bigSep_exists_pi Finset.univ (fun (a : Dev nD × Cell) (k : ℕ) => (cellInv ER (Rd m) k (cel a.1 a.2) : sProp 𝕄))) $$ HI
  icases HK with ⟨%K, #HI⟩
  iapply (hall K)
  isplitr
  · unfold records; isplitl; · iexact HI
    iexact HR
  unfold own0
  rw [bigSep_sep']
  isplitl [Hat]; · iexact Hat
  iexact Htok

theorem glob : (bigSep Finset.univ fun c => iprop(ownS c ∗ unscopedSems0 c ∗ G m c) : sProp 𝕄) ⊢ |={Set.univ}=> bigSep Finset.univ (ghost m) :=
  ((bigSep_mono fun c _ => core_alloc m c).trans (bigSep_fupd _ _)).trans (BI.fupd_mono (regroup m))

end Cert.Kernel.Run

end
-- ==== Proof.K.Credit.lean ====
/-
  What the devices owe one another at launch, and what each is therefore to be paid.
-/
module

public import proofs.«01_k».proof.Proof.K.Start

@[expose] public section

noncomputable section

namespace Cert.Kernel.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Cert.Plan Cert.Kernel.Gen

variable {F : FTy → Type} [FloatOps F]

local notation "𝕄" => MT nD τ sig Unit (Elt F) ℕ UU ℕ

variable (m : (ℓ : Loc nD τ sig) → Buf (Elt F) ℓ)

/-! ## The payments of the plan -/

/-- What a device owes at launch. -/
@[irreducible] def O₀ (c : Dev nD) : CellTallies nD τ sig Unit := owedL c plan

def isPay : Op → Bool
  | .sig _ | .snd _ _ => true
  | _ => false

/-- Each signal once, each send once. -/
def pays : List Op := (List.finRange 3).map .sig ++ lanes.map fun a => .snd a.1 a.2

theorem plan_pays : (plan.filter isPay).Perm pays := List.isPerm_iff.mp (by decide +kernel)

theorem owedL_perm (c : Dev nD) {l l' : List Op} (h : l.Perm l') : owedL c l = owedL c l' := by
  induction h with
  | nil => rfl
  | cons x _ ih => rw [owedL, owedL, ih]
  | swap x y l => simp only [owedL]; rw [add_assoc, add_assoc, add_comm (payT c x)]
  | trans _ _ ih ih' => rw [ih, ih']

theorem owedL_filter (c : Dev nD) (l : List Op) : owedL c l = owedL c (l.filter isPay) := by
  induction l with
  | nil => rfl
  | cons o l ih => cases o <;> simp only [List.filter_cons, isPay, if_true, owedL, payT, ih, add_zero, Bool.false_eq_true, if_false]

/-- What a list owes a cell is the sum of what its effects owe it. -/
theorem owedL_at (c : Dev nD) (l : List Op) (g : GSem nD τ sig) : owedL c l g () = (l.map fun o => payT c o g ()).sum := by
  induction l with
  | nil => rfl
  | cons o l ih => rw [owedL, Pi.add_apply, Finsupp.add_apply, ih, List.map_cons, List.sum_cons, Nat.add_comm]

theorem sum_finRange {n : ℕ} (f : Fin n → ℕ) : ((List.finRange n).map f).sum = ∑ i, f i := by
  rw [← List.ofFn_eq_map, List.sum_ofFn]
theorem sum_lanes (f : Lane × Fin 32 → ℕ) : (lanes.map f).sum = ∑ a, f a := by
  have h : (Finset.univ : Finset (Lane × Fin 32)) = lanes.toFinset := Finset.ext fun a => by
    rw [List.mem_toFinset]; exact ⟨fun _ => mem_lanes a, fun _ => Finset.mem_univ _⟩
  rw [h, List.sum_toFinset _ lanes_nodup]

theorem owed_at (c : Dev nD) (g : GSem nD τ sig) : O₀ c g ()
    = (∑ p : Fin 3, if g = cel (peer p c) cBar then 1 else 0)
      + ∑ a : Lane × Fin 32, if g = cel (dstDev c a.1 a.2) (cRv a.1 a.2) then NB else 0 := by
  rw [O₀, owedL_filter, owedL_perm c plan_pays, owedL_at, pays, List.map_append, List.sum_append, List.map_map, List.map_map,
    sum_finRange, sum_lanes]
  refine congrArg₂ (· + ·) ?_ ?_
  · refine Finset.sum_congr rfl fun p _ => ?_
    show tallyAt (cel (peer p c) cBar) () 1 g () = _
    rw [tallyAt_apply]; simp only [and_true]
  · refine Finset.sum_congr rfl fun a _ => ?_
    show tallyAt (cel (dstDev c a.1 a.2) (cRv a.1 a.2)) () NB g () = _
    rw [tallyAt_apply]; simp only [and_true]

theorem peer_eq_iff (p : Fin 3) (c d : Dev nD) : c = peer p d ↔ d = peer p c :=
  ⟨fun h => by rw [h, peer_invol], fun h => by rw [h, peer_invol]⟩

/-- A barrier's cell is owed a unit by each neighbour. -/
theorem owed_bar (c : Dev nD) : ∑ d : Dev nD, O₀ d (cel c cBar) () = 3 := by
  have h (d : Dev nD) : O₀ d (cel c cBar) () = ∑ p : Fin 3, if d = peer p c then 1 else 0 := by
    rw [owed_at, Finset.sum_eq_zero (s := (Finset.univ : Finset (Lane × Fin 32))) fun a _ =>
      if_neg fun h => absurd (cel_inj h).2 (by simp), Nat.add_zero]
    refine Finset.sum_congr rfl fun p _ => ?_
    congr 1
    exact propext ⟨fun h => (peer_eq_iff p c d).mp (cel_inj h).1, fun h => by rw [(peer_eq_iff p c d).mpr h]⟩
  rw [Finset.sum_congr rfl fun d _ => h d, Finset.sum_comm, Finset.sum_congr rfl fun p _ =>
    (Finset.sum_ite_eq' Finset.univ (peer p c) fun _ => 1).trans (if_pos (Finset.mem_univ _))]
  rfl

/-- An arrival's cell is owed a block by the neighbour that sends it. -/
theorem owed_rv (c : Dev nD) (a : Lane × Fin 32) : ∑ d : Dev nD, O₀ d (cel c (cRv a.1 a.2)) () = NB := by
  have h (d : Dev nD) : O₀ d (cel c (cRv a.1 a.2)) () = if d = dstDev c a.1 a.2 then NB else 0 := by
    rw [owed_at, Finset.sum_eq_zero (s := (Finset.univ : Finset (Fin 3))) fun p _ =>
      if_neg fun h => absurd (cel_inj h).2 (by simp), Nat.zero_add,
      Finset.sum_eq_single a (fun a' _ hne => if_neg fun h =>
        hne (Sum.inr.inj (Sum.inr.inj (Sum.inr.inj (Sum.inr.inj (cel_inj h).2)))).symm) fun h => absurd (Finset.mem_univ _) h]
    congr 1
    exact propext ⟨fun h => (peer_eq_iff _ c d).mp (cel_inj h).1, fun h => by rw [(peer_eq_iff (laneTo a.1 a.2) c d).mpr h]⟩
  rw [Finset.sum_congr rfl fun d _ => h d, Finset.sum_ite_eq' Finset.univ _ fun _ => NB, if_pos (Finset.mem_univ _)]

/-! ## The credit -/

theorem launch_at (c : Dev nD) (κ : Cell) (N : ℕ) (h : ∑ d : Dev nD, O₀ d (cel c κ) () = N) :
    tallyOn (cel c κ) (launchCredit (Pipeline.owing O₀) 0 (cel c κ)) = (tallyAt (cel c κ) () N : CellTallies nD τ sig Unit) := by
  unfold tallyAt; refine congrArg _ (Finsupp.ext fun u => ?_); cases u
  rw [Pipeline.launchCredit_owing, Finsupp.single_eq_same]
  exact h

theorem creds (c : Dev nD) : (Pipeline.launchCred O₀ c : sProp 𝕄) ⊢ dueTo c := by
  have h : (Pipeline.launchCred O₀ c : sProp 𝕄)
      ⊢ bigSep Finset.univ fun κ : Cell => cred (tallyOn (cel c κ) (launchCredit (Pipeline.owing O₀) 0 (cel c κ))) := by
    unfold Pipeline.launchCred
    refine (bigSep_subset (Finset.subset_univ (Finset.univ.map ⟨semOf, semOf_inj⟩))).trans ?_
    rw [bigSep_map]
    exact .refl _
  unfold dueTo
  refine h.trans ?_
  rw [over_cells, launch_at c cBar 3 (owed_bar c),
    bigSep_congr (s := (Finset.univ : Finset (Lane × Fin 32)))
      (Φ := fun a => cred (tallyOn (cel c (cRv a.1 a.2)) (launchCredit (Pipeline.owing O₀) 0 (cel c (cRv a.1 a.2))))) (Ψ := fun a => crd c (cRv a.1 a.2) NB)
      fun a _ => by rw [launch_at c (cRv a.1 a.2) NB (owed_rv c a)]]
  iintro ⟨HB, -, -, -, HR⟩
  isplitl [HB]; · iexact HB
  iexact HR

end Cert.Kernel.Run

end
-- ==== Proof.K.Launch.lean ====
/-
  The run of the kernel on all devices.
-/
module

public import proofs.«01_k».proof.Proof.K.Alloc
public import proofs.«01_k».proof.Proof.K.Credit
public import Idealize.ShloMosaic.Lib.Quiescent
public import Idealize.ShloMosaic.Lib.Pipeline.CollectiveSegs

@[expose] public section

noncomputable section

namespace Cert.Kernel.Run

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Plan Cert.Kernel.Gen

variable {F : FTy → Type} [FloatOps F]

local notation "𝕄" => MT nD τ sig Unit (Elt F) ℕ UU ℕ

variable (m : (ℓ : Loc nD τ sig) → Buf (Elt F) ℓ)

variable (ρ : Dev nD → PrngReg)

/-! ## The body's obligation -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem prog_eq : defs₀ (F := F) .tc cfg0.body (cfg0.bodyArgs t0_0 (cfg0.slots t0_0)) = bodyP := body_eq t0_0
theorem phi_a (c : Dev nD) : (dats (F := F) m 0 c).Φ t0_0.castSucc = Φ₀ m c := rfl
theorem phi_b (c : Dev nD) : (dats (F := F) m 0 c).Φ t0_0.succ = Φ₁ m c := rfl
theorem owed_a (c : Dev nD) : (dats (F := F) m 0 c).owed t0_0.castSucc = O₀ c := rfl
theorem owed_b (c : Dev nD) : (dats (F := F) m 0 c).owed t0_0.succ = 0 := rfl
theorem owes_a (c : Dev nD) : (dats (F := F) m 0 c).owesAt () t0_0.castSucc ⊢ (owesE c (owedL c plan) : sProp 𝕄) := by
  unfold Dat.owesAt Pipeline.owesWithin owesE
  rw [owed_a, O₀]
  iintro ⟨%W, -, HO⟩
  iexists W; iexact HO
theorem owes_b (c : Dev nD) : (owesE c 0 : sProp 𝕄) ⊢ (dats (F := F) m 0 c).owesAt () t0_0.succ := by
  unfold Dat.owesAt Pipeline.owesWithin owesE
  rw [owed_b]
  iintro ⟨%W, HO⟩
  iexists W
  isplitr; · ipureintro; exact fun _ _ => Or.inl trivial
  iexact HO

theorem body_obligation (c : Dev nD) : BodyObligation (dats (F := F) m 0 c) (defs₀ (F := F)) 𝒱₀ () Set.univ := fun t => by
  obtain rfl : t = t0_0 := fin_N0 t
  have hW : ∀ f : Fin cfg0.W → sProp 𝕄, bigSep Finset.univ f = BI.emp := fun f => by
    rw [show (Finset.univ : Finset (Fin cfg0.W)) = ∅ from rfl, BI.bigSep_empty]
  rw [prog_eq, phi_a, phi_b, hW, hW]
  iintro ⟨HΦ, HO, -⟩
  iapply (body_ok m c _) $$ [HΦ HO]
  · isplitl [HΦ]; · iexact HΦ
    iapply (owes_a m c); iexact HO
  iintro ⟨HΦ, HO⟩
  isplitl [HΦ]; · iexact HΦ
  isplitl [HO]; · iapply (owes_b m c); iexact HO
  iempintro

/-! ## The launch's conditions -/

theorem share_eq (c : Dev nD) (w : Fin cfg0.W) : (dats m 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, unscopedRest0_eq]
  iintro ⟨⟨Hx, Ho⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop((done m c ∗ unscopedSems0 c) ∗ ownS c ∗ Pipeline.scopedRest cfg0.spec c) := by
  rw [show (dats m 0 c).Φ (Fin.last cfg0.N) = Φ₁ m c from rfl, scopedRest0_eq]
  unfold Φ₁ scr
  rw [← sems_eq]
  iintro ⟨Hd, ⟨Hu, Ho⟩, Hr⟩
  isplitl [Hd Hu]
  · isplitl [Hd]; · iexact Hd
    iexact Hu
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w _ _ => w.elim0

/-! ## The run -/

/-- On every device, at the end: the result's contents, the argument as it was. -/
def Ends (c : Dev nD) (s : MemSt nD τ sig (Elt F)) : Prop :=
  s.mem ((c : Thread nD τ).loc main_arg0) = xVal m c ∧ s.mem ((c : Thread nD τ).loc main_v1) = outVal m c

theorem read_one (ℓ : Loc nD τ sig) (f : Buf (Elt F) ℓ) (s : Phys nD τ sig (Elt F)) :
    iprop((ℓ ↦{fullShare} f : sProp 𝕄) ∗ SI s) ⊢ iprop(⌜s.mem.mem ℓ = f⌝ ∗ SI s) := by
  have h := pointsTo_read_all (Ix := Unit) (Name := ℕ) (U := UU) (Lvl := ℕ) ({()} : Finset Unit) (fun _ => ℓ) (fun _ => f) s
  rw [bigSep_singleton] at h
  refine h.trans ?_
  iintro ⟨%h, HS⟩
  isplitr; · ipureintro; exact h () (Finset.mem_singleton_self _)
  iexact HS

theorem ends_read (c : Dev nD) (s : Phys nD τ sig (Elt F)) :
    iprop((done m c ∗ unscopedSems0 c) ∗ emp ∗ SI s)
      ⊢ |={Set.univ}=> iprop(⌜Ends m c s.mem ∧ ∀ sm : SemLoc sig, sm.isScoped .tc = false → s.mem.sem ((c.tc : Thread nD τ), sm) = 0⌝ ∗ SI s : sProp 𝕄) := by
  unfold done
  iintro ⟨⟨⟨Hx, Ho⟩, Hu⟩, -, HS⟩
  ihave H := (read_one _ _ s) $$ [Hx HS]
  · isplitl [Hx]; · iexact Hx
    iexact HS
  icases H with ⟨%hx, HS⟩
  ihave H := (read_one _ _ s) $$ [Ho HS]
  · isplitl [Ho]; · iexact Ho
    iexact HS
  icases H with ⟨%ho, HS⟩
  imod (Pipeline.unscopedSems0_read (X := unscopedSems0 c) (c := c) fupd_intro s) $$ [Hu HS] with ⟨%hu, HS⟩
  · isplitl [Hu]; · iexact Hu
    iexact HS
  imodintro
  isplitr; · ipureintro; exact ⟨⟨hx, ho⟩, hu⟩
  iexact HS

set_option maxRecDepth 8000 in
/-- From any memory with every counter at zero: the run ends, with the result's contents on every device, the
    argument as it was and every counter at zero. -/
theorem run_main : θ_run defs (onTc (τ := τ) (main (F := F))) ⟨m, fun _ => 0, ρ⟩
    (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (deal m) $$ HX with HG
      imodintro
      isplitl [HP]; · iexact HP
      iexact HG)
    (hglob := glob m)
    (hA := fun _ w => w.elim0) (hpf := fun _ k => k.elim0)
    (X := start m) (Y := fun c => iprop(done m c ∗ unscopedSems0 c)) (Z := fun _ => iprop(emp))
    (hX := start_intro m ρ) (hin := phi0_intro m) (hout := phi1_exit m)
    (QY := fun c s => Ends m c s ∧ ∀ sm : SemLoc sig, sm.isScoped .tc = false → s.sem ((c.tc : Thread nD τ), sm) = 0)
    (hY := ends_read m)
    (hQ := fun _ h hs => ⟨fun c => (h c).2.2.1, sem_eq_zero hs fun c => (h c).2.2.2⟩)

end Cert.Kernel.Run

end
-- ==== Proof.Value.lean ====
/-
  The kernel's result, when each device's argument is its half of one whole array: every device ends with the whole
  array rounded. A row comes from a device whose half holds that row, so which of the four it is does not matter.
-/
module

public import proofs.«01_k».proof.Proof.K.Content
public import Idealize.ShloMosaic.Lib.Layout

@[expose] public section

noncomputable section

namespace Cert.Kernel.Run

open Idealize.ShloMosaic Idealize.ShloMosaic.TcCoe Idealize.SL Idealize.SL.Sem Cert.Kernel.Gen
open Idealize.ShloMosaic.ValueIdx

variable {F : FTy → Type} [FloatOps F]
variable (m : (ℓ : Loc nD τ sig) → Buf (Elt F) ℓ)

/-- The device that a row comes from lies in the row's half. -/
theorem srcDev_half (c : Dev nD) (r : Fin 32768) : (srcDev c r).val % 2 = r.val / 16384 := by
  have hr := r.isLt
  unfold srcDev
  split
  · next h => exact h.symm
  · show (2 * ((r.val % 16384) / 4096) + r.val / 16384) % 2 = _
    omega

/-- The whole array rounded. -/
def whole (x : S32768x1024.Idx → F .f32) : S32768x1024.Idx → F .bf16 := fun i => tr (x i)

theorem outVal_whole (x : S32768x1024.Idx → F .f32)
    (h : ∀ c : Dev nD, xVal m c = Layout.blockN ⟨2, ![16384, 1024]⟩ ⟨2, ![32768, 1024]⟩
      (Layout.meshBlock [2, 2, 2] ![[2], []] c) x) (c : Dev nD) :
    outVal m c = whole x := by
  funext i
  refine congrArg tr ?_
  refine (congrFun (h (srcDev c (i 0))) _).trans ?_
  refine congrArg x ?_
  have hs := srcDev_half c (i 0)
  funext a
  apply Fin.ext
  fin_cases a
  · show (((srcDev c (i 0)).val / 1) % 2 * 1 + 0) * 16384 + (i 0).val % 16384 = (i 0).val
    omega
  · show 0 * 1024 + (i 1).val = (i 1).val
    omega

end Cert.Kernel.Run

end
-- ==== Proof.Reference.lean ====
/-
  The reference's run on its one device: one rounding of the whole argument.
-/
module

public import proofs.«01_k».proof.Proof.Gen.ReferenceIdeal
public import Idealize.ShloMosaic.Lib.StableHlo.Run

@[expose] public section

noncomputable section

namespace Cert.Reference

open Idealize.ShloMosaic Idealize.ShloMosaic.TcCoe Idealize.SL Idealize.SL.Sem Idealize.ShloMosaic.StableHlo
open Cert.ReferenceIdeal Cert.ReferenceIdeal.Gen

variable {F : FTy → Type} [FloatOps F]

/-- The one operation. -/
abbrev ops : List (HloOp τ sig (Elt F)) :=
  [StableHlo.unary main_arg0 main_v0
    ((truncf .bf16 · bitsLt_bf16_f32) : (⟨S32768x1024, .f32⟩ : BufTy).Contents (Elt F) → (⟨S32768x1024, .bf16⟩ : BufTy).Contents (Elt F))]

theorem main_seq (c : Dev nD) : main (F := F) c = seq ops := rfl

/-- The whole argument on a device, and the same rounded. -/
def arg (m : (ℓ : Loc nD τ sig) → Buf (Elt F) ℓ) (c : Dev nD) : S32768x1024.Idx → F .f32 := m ((c : Thread nD τ).loc main_arg0)
def rounded (x : S32768x1024.Idx → F .f32) : S32768x1024.Idx → F .bf16 := fun i => FloatOps.truncf .bf16 bitsLt_bf16_f32 (x i)

theorem result_eq (V : Valuation τ sig (Elt F)) :
    after ops V (main_v0 : DevRef τ sig) = rounded (V (main_arg0 : DevRef τ sig)) := by
  after_results
  rfl
theorem arg_eq (V : Valuation τ sig (Elt F)) : after ops V (main_arg0 : DevRef τ sig) = V (main_arg0 : DevRef τ sig) := by
  after_results

theorem no_scoped_refs : (Finset.univ.filter fun b : Ref sig .tc => b.isScoped) = ∅ := by decide
theorem no_scoped_sems : (Finset.univ.filter fun s : SemLoc sig => s.isScoped .tc) = ∅ := by decide

/-- The result ends as the argument rounded; the argument ends as it was. -/
theorem run (m : (ℓ : Loc nD τ sig) → Buf (Elt F) ℓ) (ρ : Dev nD → PrngReg) :
    θ_run defs (onTc (τ := τ) (main (F := F))) ⟨m, fun _ => 0, ρ⟩
      (fun r => ∀ c : Dev nD, r.2.mem ((c : Thread nD τ).loc main_v0) = rounded (arg m c)
        ∧ r.2.mem ((c : Thread nD τ).loc main_arg0) = arg m c) :=
  (θ_run defs _ _).mono (fun _ h c => ⟨(h c main_v0).trans (result_eq _), (h c main_arg0).trans (arg_eq _)⟩)
    (run_seq no_scoped_refs no_scoped_sems defs main (fun _ => ops) main_seq (fun _ => unary_bufs_sub ..) m ρ)

end Cert.Reference

end
-- ==== Proof.lean ====
/-
  The proof of `Cert.Claim`: the kernel's run on its eight devices (Proof/K/Launch.lean), read at its argument for the
  frames and at its result for the value; the reference's run (Proof/Reference.lean); and the result as the whole array
  rounded (Proof/Value.lean). The idealized kernel is the same program, so its run is the kernel's at ideal floats.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.Launch
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The kernel ends with its argument unchanged and every counter at zero. -/
theorem frame_kernel : Cert.quiescent_Kernel := fun m g _ =>
  (θ_run _ _ _).mono (fun _ h => ⟨fun c => (h.1 c).1, h.2⟩) (Cert.Kernel.Run.run_main (F := Bits) m g)

/-- The idealized kernel's run. -/
theorem run_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_v1)
            = Cert.Kernel.Run.outVal (F := Ideal) m c) ∧ r.2.sem = fun _ => 0) :=
  Cert.Kernel.Run.run_main (F := Ideal) m g

theorem frame_ideal : Cert.quiescent_KernelIdeal := fun m g _ =>
  (θ_run _ _ _).mono (fun _ h => ⟨fun c => (h.1 c).1, h.2⟩) (run_ideal m g)

/-- The reference declares no semaphore, so its counters are at zero. -/
theorem frame_reference : Cert.quiescent_ReferenceIdeal := fun m g _ =>
  (θ_run _ _ _).mono (fun r h => ⟨fun c => (h c).2, sem_eq_zero_of_no_sems (by decide) r.2⟩)
    (Cert.Reference.run (F := Ideal) m g)

/-- Every device's result is the reference's: the whole array rounded. -/
theorem value : Cert.algebraic_KernelIdeal_ReferenceIdeal := fun m g m' g' _ hx =>
  ⟨Cert.Reference.rounded (Cert.Reference.arg (F := Ideal) m' 0),
    (θ_run _ _ _).mono (fun _ h c => ⟨(h.1 c).2.trans (Cert.Kernel.Run.outVal_whole (F := Ideal) m _ hx c), (h.1 c).1⟩) (run_ideal m g),
    (θ_run _ _ _).mono (fun _ h => h 0) (Cert.Reference.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
